-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_counts_fit : Cert.Pre_counts_fit.Facts] (m : (ℓ : Loc Cert.Kernel2.nD Cert.Kernel2.τ Cert.Kernel2.sig) → Buf (Elt Bits) ℓ) : Prop :=
  ∀ c : Dev Cert.Kernel2.nD,
    (Cert.Pre_counts_fit.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_counts_fit : Cert.Pre_counts_fit.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_fit.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts_fit [hPre_counts_fit : Cert.Pre_counts_fit.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_fit.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_counts_fit : Cert.Pre_counts_fit.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_counts_fit : Cert.Pre_counts_fit.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counts_fit [hReference2Ideal : Cert.Reference2Ideal.Facts] [hPre_counts_fit : Cert.Pre_counts_fit.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts_fit m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_counts_fit : Cert.Pre_counts_fit.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v57)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts) (hPre_counts_fit : Cert.Pre_counts_fit.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_counts_fit := hPre_counts_fit)
    ∧ quiescent_Kernel2Ideal (hKernel2Ideal := hKernel2Ideal) (hPre_counts_fit := hPre_counts_fit)
    ∧ quiescent_Reference2Ideal (hReference2Ideal := hReference2Ideal)
    ∧ quiescent_Reference2Ideal_pre_counts_fit (hReference2Ideal := hReference2Ideal) (hPre_counts_fit := hPre_counts_fit)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_counts_fit := hPre_counts_fit)
-- ==== Pre_counts_fit.lean ====
abbrev S16x33792x1024 : Shape := ⟨3, ![16, 33792, 1024]⟩
abbrev S16 : Shape := ⟨1, ![16]⟩
abbrev S16x1024x768 : Shape := ⟨3, ![16, 1024, 768]⟩
abbrev S16x768x1024 : Shape := ⟨3, ![16, 768, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x33792x1024 .f32) (main_arg1 : IVec S16 32) (main_arg2 : FVec F S16x1024x768 .f32) (main_arg3 : FVec F S16x1024x768 .f32) (main_arg4 : FVec F S16x768x1024 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 33792#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 67584#32
  let main_v7 : IVec S_ 1 := cmpi .sle main_v6 main_c_3
  let main_v8 : IVec S_ 1 := andi main_v5 main_v7
  main_v8
-- ==== Pre_finite_qk.lean ====
abbrev S4x8x8192x64 : Shape := ⟨4, ![4, 8, 8192, 64]⟩
abbrev S4x2x256x64 : Shape := ⟨4, ![4, 2, 256, 64]⟩
abbrev S4x2x8192x64 : Shape := ⟨4, ![4, 2, 8192, 64]⟩
abbrev S_ : Shape := ⟨0, ![]⟩

class Facts : Prop where
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_
  h_S_ : 0 < S_.numel
  bcast_S_S4x2x256x64 : S_.BroadcastsInDim S4x2x256x64 (![] : Fin 0 → Fin S4x2x256x64.rank)
  reducesTo_S4x2x256x64_S_d0_1_2_3 : S4x2x256x64.ReducesTo [0, 1, 2, 3] S_
  bcast_S_S4x2x8192x64 : S_.BroadcastsInDim S4x2x8192x64 (![] : Fin 0 → Fin S4x2x8192x64.rank)
  reducesTo_S4x2x8192x64_S_d0_1_2_3 : S4x2x8192x64.ReducesTo [0, 1, 2, 3] S_

variable [Facts]

def fn {F : FTy → Type} [FloatOps F] (main_arg0 : FVec F S4x8x8192x64 .f32) (main_arg1 : FVec F S4x2x256x64 .f32) (main_arg2 : FVec F S4x2x8192x64 .f32) (main_arg3 : FVec F S4x2x256x64 .f32) (main_arg4 : FVec F S4x2x8192x64 .f32) : IVec S_ 1 :=
  let main_v0 : FVec F S4x8x8192x64 .f32 := Host.absf main_arg0
  let main_cst : FVec F S_ .f32 := constant S_ .f32 0x7F800000#32
  let main_v1 : FVec F S4x8x8192x64 .f32 := broadcastInDim S4x8x8192x64 ![] bcast_S_S4x8x8192x64 main_cst
  let main_v2 : IVec S4x8x8192x64 1 := cmpf .olt main_v0 main_v1
  let main_c : IVec S_ 1 := constantI S_ 1 1#1
  let main_v3 : IVec S_ 1 := (fun x v => Host.reduce IntOp.andi x v reducesTo_S4x8x8192x64_S_d0_1_2_3 h_S_) main_v2 main_c
  let main_v4 : FVec F S4x2x256x64 .f32 := Host.absf main_arg1
  let main_cst_0 : FVec F S_ .f32 := constant S_ .f32 0x7F800000#32
  let main_v5 : FVec F S4x2x256x64 .f32 := broadcastInDim S4x2x256x64 ![] bcast_S_S4x2x256x64 main_cst_0
  let main_v6 : IVec S4x2x256x64 1 := cmpf .olt main_v4 main_v5
  let main_c_1 : IVec S_ 1 := constantI S_ 1 1#1
  let main_v7 : IVec S_ 1 := (fun x v => Host.reduce IntOp.andi x v reducesTo_S4x2x256x64_S_d0_1_2_3 h_S_) main_v6 main_c_1
  let main_v8 : IVec S_ 1 := andi main_v3 main_v7
  let main_v9 : FVec F S4x2x8192x64 .f32 := Host.absf main_arg2
  let main_cst_2 : FVec F S_ .f32 := constant S_ .f32 0x7F800000#32
  let main_v10 : FVec F S4x2x8192x64 .f32 := broadcastInDim S4x2x8192x64 ![] bcast_S_S4x2x8192x64 main_cst_2
  let main_v11 : IVec S4x2x8192x64 1 := cmpf .olt main_v9 main_v10
  let main_c_3 : IVec S_ 1 := constantI S_ 1 1#1
  let main_v12 : IVec S_ 1 := (fun x v => Host.reduce IntOp.andi x v reducesTo_S4x2x8192x64_S_d0_1_2_3 h_S_) main_v11 main_c_3
  let main_v13 : IVec S_ 1 := andi main_v8 main_v12
  main_v13
-- ==== Kernel.lean ====
abbrev S4x8x8192x64 : Shape := ⟨4, ![4, 8, 8192, 64]⟩
abbrev S4x2x256x64 : Shape := ⟨4, ![4, 2, 256, 64]⟩
abbrev S4x2x8192x64 : Shape := ⟨4, ![4, 2, 8192, 64]⟩
abbrev S_ : Shape := ⟨0, ![]⟩
abbrev S4x8x16x512x64 : Shape := ⟨5, ![4, 8, 16, 512, 64]⟩
abbrev S4x16x8x64x512 : Shape := ⟨5, ![4, 16, 8, 64, 512]⟩
abbrev S64x512x512 : Shape := ⟨3, ![64, 512, 512]⟩
abbrev S2x512x512 : Shape := ⟨3, ![2, 512, 512]⟩
abbrev S66x512x512 : Shape := ⟨3, ![66, 512, 512]⟩
abbrev S2x4x8192x64 : Shape := ⟨4, ![2, 4, 8192, 64]⟩
abbrev S2x32768x64 : Shape := ⟨3, ![2, 32768, 64]⟩
abbrev S2x4x256x64 : Shape := ⟨4, ![2, 4, 256, 64]⟩
abbrev S2x1024x64 : Shape := ⟨3, ![2, 1024, 64]⟩
abbrev S2x33792x64 : Shape := ⟨3, ![2, 33792, 64]⟩
abbrev S4x2x16x512x64 : Shape := ⟨5, ![4, 2, 16, 512, 64]⟩
abbrev S4x16x2x64x512 : Shape := ⟨5, ![4, 16, 2, 64, 512]⟩
abbrev S2x2x2x256x64 : Shape := ⟨5, ![2, 2, 2, 256, 64]⟩
abbrev S2x2x64x2x256 : Shape := ⟨5, ![2, 2, 64, 2, 256]⟩
abbrev S64x2x64x512 : Shape := ⟨4, ![64, 2, 64, 512]⟩
abbrev S2x2x64x512 : Shape := ⟨4, ![2, 2, 64, 512]⟩
abbrev S66x2x64x512 : Shape := ⟨4, ![66, 2, 64, 512]⟩
abbrev S66x2x1x512 : Shape := ⟨4, ![66, 2, 1, 512]⟩
abbrev S66x2x15x512 : Shape := ⟨4, ![66, 2, 15, 512]⟩
abbrev S66x2x80x512 : Shape := ⟨4, ![66, 2, 80, 512]⟩
abbrev S66x160x512 : Shape := ⟨3, ![66, 160, 512]⟩
abbrev S8x256x512 : Shape := ⟨3, ![8, 256, 512]⟩
abbrev S1x256x64 : Shape := ⟨3, ![1, 256, 64]⟩
abbrev S1x8192x64 : Shape := ⟨3, ![1, 8192, 64]⟩
abbrev S1x80x256 : Shape := ⟨3, ![1, 80, 256]⟩
abbrev S16x80x512 : Shape := ⟨3, ![16, 80, 512]⟩
abbrev S32x80x512 : Shape := ⟨3, ![32, 80, 512]⟩
abbrev S512x512 : Shape := ⟨2, ![512, 512]⟩
abbrev S1x64x512 : Shape := ⟨3, ![1, 64, 512]⟩
abbrev S64x512 : Shape := ⟨2, ![64, 512]⟩
abbrev S256x64 : Shape := ⟨2, ![256, 64]⟩
abbrev S80x256 : Shape := ⟨2, ![80, 256]⟩
abbrev S256x512 : Shape := ⟨2, ![256, 512]⟩
abbrev S80x512 : Shape := ⟨2, ![80, 512]⟩
abbrev S1x80x512 : Shape := ⟨3, ![1, 80, 512]⟩
abbrev S1x512x64 : Shape := ⟨3, ![1, 512, 64]⟩
abbrev S512x64 : Shape := ⟨2, ![512, 64]⟩
abbrev S1x512 : Shape := ⟨2, ![1, 512]⟩
abbrev S4x16x512x512 : Shape := ⟨4, ![4, 16, 512, 512]⟩
abbrev S4x8192x512 : Shape := ⟨3, ![4, 8192, 512]⟩

abbrev nBuf : Space → Nat
  | .hbm => 46
  | .vmem => 15
  | .smem => 0
  | _ => 0

abbrev bufTy : (tb : Table) → Fin (tcTables nBuf tb) → BufTy
  | .hbm, ⟨0, _⟩ => ⟨S4x8x8192x64, .f32⟩
  | .hbm, ⟨1, _⟩ => ⟨S4x2x256x64, .f32⟩
  | .hbm, ⟨2, _⟩ => ⟨S4x2x8192x64, .f32⟩
  | .hbm, ⟨3, _⟩ => ⟨S4x2x256x64, .f32⟩
  | .hbm, ⟨4, _⟩ => ⟨S4x2x8192x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x8192x64, .f32⟩
  | .hbm, ⟨10, _⟩ => ⟨S4x8x8192x64, .f32⟩
  | .hbm, ⟨11, _⟩ => ⟨S4x8x8192x64, .bf16⟩
  | .hbm, ⟨12, _⟩ => ⟨S4x8x16x512x64, .bf16⟩
  | .hbm, ⟨13, _⟩ => ⟨S4x16x8x64x512, .bf16⟩
  | .hbm, ⟨14, _⟩ => ⟨S64x512x512, .bf16⟩
  | .hbm, ⟨15, _⟩ => ⟨S_, .bf16⟩
  | .hbm, ⟨16, _⟩ => ⟨S2x512x512, .bf16⟩
  | .hbm, ⟨17, _⟩ => ⟨S66x512x512, .bf16⟩
  | .hbm, ⟨18, _⟩ => ⟨S4x2x8192x64, .bf16⟩
  | .hbm, ⟨19, _⟩ => ⟨S2x4x8192x64, .bf16⟩
  | .hbm, ⟨20, _⟩ => ⟨S2x32768x64, .bf16⟩
  | .hbm, ⟨21, _⟩ => ⟨S4x2x256x64, .bf16⟩
  | .hbm, ⟨22, _⟩ => ⟨S2x4x256x64, .bf16⟩
  | .hbm, ⟨23, _⟩ => ⟨S2x1024x64, .bf16⟩
  | .hbm, ⟨24, _⟩ => ⟨S2x33792x64, .bf16⟩
  | .hbm, ⟨25, _⟩ => ⟨S4x2x8192x64, .bf16⟩
  | .hbm, ⟨26, _⟩ => ⟨S4x2x16x512x64, .bf16⟩
  | .hbm, ⟨27, _⟩ => ⟨S4x16x2x64x512, .bf16⟩
  | .hbm, ⟨28, _⟩ => ⟨S4x2x256x64, .bf16⟩
  | .hbm, ⟨29, _⟩ => ⟨S2x2x2x256x64, .bf16⟩
  | .hbm, ⟨30, _⟩ => ⟨S2x2x64x2x256, .bf16⟩
  | .hbm, ⟨31, _⟩ => ⟨S64x2x64x512, .bf16⟩
  | .hbm, ⟨32, _⟩ => ⟨S2x2x64x512, .bf16⟩
  | .hbm, ⟨33, _⟩ => ⟨S66x2x64x512, .bf16⟩
  | .hbm, ⟨34, _⟩ => ⟨S_, .bf16⟩
  | .hbm, ⟨35, _⟩ => ⟨S66x2x1x512, .bf16⟩
  | .hbm, ⟨36, _⟩ => ⟨S_, .bf16⟩
  | .hbm, ⟨37, _⟩ => ⟨S66x2x15x512, .bf16⟩
  | .hbm, ⟨38, _⟩ => ⟨S66x2x80x512, .bf16⟩
  | .hbm, ⟨39, _⟩ => ⟨S66x160x512, .bf16⟩
  | .hbm, ⟨40, _⟩ => ⟨S66x512x512, .bf16⟩
  | .hbm, ⟨41, _⟩ => ⟨S64x512x512, .bf16⟩
  | .hbm, ⟨42, _⟩ => ⟨S4x16x512x512, .bf16⟩
  | .hbm, ⟨43, _⟩ => ⟨S4x16x512x512, .bf16⟩
  | .hbm, ⟨44, _⟩ => ⟨S4x8192x512, .bf16⟩
  | .hbm, ⟨45, _⟩ => ⟨S4x8192x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x64, .bf16⟩
  | .local _ .vmem, ⟨3, _⟩ => ⟨S1x256x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x80x256, .bf16⟩
  | .local _ .vmem, ⟨7, _⟩ => ⟨S1x80x256, .bf16⟩
  | .local _ .vmem, ⟨8, _⟩ => ⟨S16x80x512, .bf16⟩
  | .local _ .vmem, ⟨9, _⟩ => ⟨S16x80x512, .bf16⟩
  | .local _ .vmem, ⟨10, _⟩ => ⟨S8x256x512, .bf16⟩
  | .local _ .vmem, ⟨11, _⟩ => ⟨S8x256x512, .bf16⟩
  | .local _ .vmem, ⟨12, _⟩ => ⟨S32x80x512, .f32⟩
  | .local _ .vmem, ⟨13, _⟩ => ⟨S512x512, .bf16⟩
  | .local _ .vmem, ⟨14, _⟩ => ⟨S512x512, .bf16⟩
  | _, _ => ⟨S4x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 2], ![false, false, false]⟩

def k0_mult1 : BitVec 32 :=
  let c0_i32 : BitVec 32 := 0#32
  c0_i32
@[reducible] def k0_t1_loop : Scf.Loop 32 :=
  let c0_i32_359 : BitVec 32 := 0#32
  let c16_i32 : BitVec 32 := 16#32
  let v430 : BitVec 32 := Scalar.addi c0_i32_359 c16_i32
  let c1_i32 : BitVec 32 := 1#32
  ⟨c0_i32_359, v430, c1_i32⟩
def k0_mult2 (k0_t1 : Fin k0_t1_loop.trips) : BitVec 32 :=
  let c0_i32_359 : BitVec 32 := 0#32
  let c1_i32 : BitVec 32 := 1#32
  let arg12 : BitVec 32 := Scf.iv c0_i32_359 c1_i32 k0_t1
  let c512_i32 : BitVec 32 := 512#32
  let v751 : BitVec 32 := Scalar.muli arg12 c512_i32
  v751
def k0_off1 (k0_t1 : Fin k0_t1_loop.trips) : Fin 3 → Nat :=
  let c0_553 : Index := 0#32
  let c0_i32_359 : BitVec 32 := 0#32
  let c1_i32 : BitVec 32 := 1#32
  let arg12 : BitVec 32 := Scf.iv c0_i32_359 c1_i32 k0_t1
  let c512_i32 : BitVec 32 := 512#32
  let v751 : BitVec 32 := Scalar.muli arg12 c512_i32
  let v752 : BitVec 32 := v751
  let v753 : Index := Scalar.indexCast v752
  let c0_554 : Index := 0#32
  ![0, v753.toNat, 0]
def k0_off2 (k0_t1 : Fin k0_t1_loop.trips) : Fin 3 → Nat :=
  let c0_i32_359 : BitVec 32 := 0#32
  let c1_i32 : BitVec 32 := 1#32
  let arg12 : BitVec 32 := Scf.iv c0_i32_359 c1_i32 k0_t1
  let v756 : Index := Scalar.indexCast arg12
  let c0_555 : Index := 0#32
  let c0_556 : Index := 0#32
  ![v756.toNat, 0, 0]
def k0_mult3 (k0_t1 : Fin k0_t1_loop.trips) : BitVec 32 :=
  let c0_i32_359 : BitVec 32 := 0#32
  let c1_i32 : BitVec 32 := 1#32
  let arg12 : BitVec 32 := Scf.iv c0_i32_359 c1_i32 k0_t1
  let c1_i32_929 : BitVec 32 := 1#32
  let v1193 : BitVec 32 := Scalar.addi arg12 c1_i32_929
  let c15_i32 : BitVec 32 := 15#32
  let v1194 : BitVec 32 := Scalar.minsi v1193 c15_i32
  let c512_i32_930 : BitVec 32 := 512#32
  let v1195 : BitVec 32 := Scalar.muli v1194 c512_i32_930
  v1195
def k0_off3 (k0_t1 : Fin k0_t1_loop.trips) : Fin 3 → Nat :=
  let c0_931 : Index := 0#32
  let c0_i32_359 : BitVec 32 := 0#32
  let c1_i32 : BitVec 32 := 1#32
  let arg12 : BitVec 32 := Scf.iv c0_i32_359 c1_i32 k0_t1
  let c1_i32_929 : BitVec 32 := 1#32
  let v1193 : BitVec 32 := Scalar.addi arg12 c1_i32_929
  let c15_i32 : BitVec 32 := 15#32
  let v1194 : BitVec 32 := Scalar.minsi v1193 c15_i32
  let c512_i32_930 : BitVec 32 := 512#32
  let v1195 : BitVec 32 := Scalar.muli v1194 c512_i32_930
  let v1196 : BitVec 32 := v1195
  let v1197 : Index := Scalar.indexCast v1196
  let c0_932 : Index := 0#32
  ![0, v1197.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8x8192x64 : Shape := ⟨4, ![4, 8, 8192, 64]⟩
abbrev S4x2x256x64 : Shape := ⟨4, ![4, 2, 256, 64]⟩
abbrev S4x2x8192x64 : Shape := ⟨4, ![4, 2, 8192, 64]⟩
abbrev S4x2x8448x64 : Shape := ⟨4, ![4, 2, 8448, 64]⟩
abbrev S4x2x4x8192x64 : Shape := ⟨5, ![4, 2, 4, 8192, 64]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x8192x8x64 : Shape := ⟨4, ![4, 8192, 8, 64]⟩
abbrev S4x8192x512 : Shape := ⟨3, ![4, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x8x8192x64, .f32⟩
  | .hbm, ⟨1, _⟩ => ⟨S4x2x256x64, .f32⟩
  | .hbm, ⟨2, _⟩ => ⟨S4x2x8192x64, .f32⟩
  | .hbm, ⟨3, _⟩ => ⟨S4x2x256x64, .f32⟩
  | .hbm, ⟨4, _⟩ => ⟨S4x2x8192x64, .f32⟩
  | .hbm, ⟨5, _⟩ => ⟨S4x2x8448x64, .f32⟩
  | .hbm, ⟨6, _⟩ => ⟨S4x2x8448x64, .f32⟩
  | .hbm, ⟨7, _⟩ => ⟨S4x2x4x8192x64, .f32⟩
  | .hbm, ⟨8, _⟩ => ⟨S4x2x4x8192x8448, .f32⟩
  | .hbm, ⟨9, _⟩ => ⟨S_, .f32⟩
  | .hbm, ⟨10, _⟩ => ⟨S4x2x4x8192x8448, .f32⟩
  | .hbm, ⟨11, _⟩ => ⟨S4x2x4x8192x8448, .f32⟩
  | .hbm, ⟨12, _⟩ => ⟨S_, .f32⟩
  | .hbm, ⟨13, _⟩ => ⟨S4x2x4x8192, .f32⟩
  | .hbm, ⟨14, _⟩ => ⟨S_, .f32⟩
  | .hbm, ⟨15, _⟩ => ⟨S4x2x4x8192, .f32⟩
  | .hbm, ⟨16, _⟩ => ⟨S4x2x4x8192, .f32⟩
  | .hbm, ⟨17, _⟩ => ⟨S4x2x4x8192x1, .f32⟩
  | .hbm, ⟨18, _⟩ => ⟨S4x2x4x8192x8448, .f32⟩
  | .hbm, ⟨19, _⟩ => ⟨S4x2x4x8192x8448, .f32⟩
  | .hbm, ⟨20, _⟩ => ⟨S4x2x4x8192x8448, .f32⟩
  | .hbm, ⟨21, _⟩ => ⟨S_, .f32⟩
  | .hbm, ⟨22, _⟩ => ⟨S4x2x4x8192, .f32⟩
  | .hbm, ⟨23, _⟩ => ⟨S4x2x4x8192x1, .f32⟩
  | .hbm, ⟨24, _⟩ => ⟨S4x2x4x8192x8448, .f32⟩
  | .hbm, ⟨25, _⟩ => ⟨S4x2x4x8192x8448, .f32⟩
  | .hbm, ⟨26, _⟩ => ⟨S4x2x4x8192x64, .f32⟩
  | .hbm, ⟨27, _⟩ => ⟨S4x8x8192x64, .f32⟩
  | .hbm, ⟨28, _⟩ => ⟨S4x8192x8x64, .f32⟩
  | .hbm, ⟨29, _⟩ => ⟨S4x8192x512, .f32⟩
  | _, _ => ⟨S4x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S16x33792x1024 : Shape := ⟨3, ![16, 33792, 1024]⟩
abbrev S16 : Shape := ⟨1, ![16]⟩
abbrev S16x1024x768 : Shape := ⟨3, ![16, 1024, 768]⟩
abbrev S16x768x1024 : Shape := ⟨3, ![16, 768, 1024]⟩
abbrev S4325376x128 : Shape := ⟨2, ![4325376, 128]⟩
abbrev S_ : Shape := ⟨0, ![]⟩
abbrev S4096x128 : Shape := ⟨2, ![4096, 128]⟩
abbrev S4329472x128 : Shape := ⟨2, ![4329472, 128]⟩
abbrev S148 : Shape := ⟨1, ![148]⟩
abbrev S148x1 : Shape := ⟨2, ![148, 1]⟩
abbrev S1x16 : Shape := ⟨2, ![1, 16]⟩
abbrev S148x16 : Shape := ⟨2, ![148, 16]⟩
abbrev S1 : Shape := ⟨1, ![1]⟩
abbrev S1x16x1024x768 : Shape := ⟨4, ![1, 16, 1024, 768]⟩
abbrev S1x16x768x1024 : Shape := ⟨4, ![1, 16, 768, 1024]⟩
abbrev S1x1x1024x768 : Shape := ⟨4, ![1, 1, 1024, 768]⟩
abbrev S1x1x768x1024 : Shape := ⟨4, ![1, 1, 768, 1024]⟩
abbrev S1024x768 : Shape := ⟨2, ![1024, 768]⟩
abbrev S768x1024 : Shape := ⟨2, ![768, 1024]⟩
abbrev S256x128 : Shape := ⟨2, ![256, 128]⟩
abbrev S256x1024 : Shape := ⟨2, ![256, 1024]⟩
abbrev S256x768 : Shape := ⟨2, ![256, 768]⟩
abbrev S33792 : Shape := ⟨1, ![33792]⟩
abbrev S1x33792x1 : Shape := ⟨3, ![1, 33792, 1]⟩
abbrev S16x1x1 : Shape := ⟨3, ![16, 1, 1]⟩
abbrev S16x33792x1 : Shape := ⟨3, ![16, 33792, 1]⟩

abbrev nBuf : Space → Nat
  | .hbm => 95
  | .vmem => 13
  | .smem => 3
  | _ => 0

abbrev bufTy : (tb : Table) → Fin (tcTables nBuf tb) → BufTy
  | .hbm, ⟨0, _⟩ => ⟨S16x33792x1024, .f32⟩
  | .hbm, ⟨1, _⟩ => ⟨S16, .i32⟩
  | .hbm, ⟨2, _⟩ => ⟨S16x1024x768, .f32⟩
  | .hbm, ⟨3, _⟩ => ⟨S16x1024x768, .f32⟩
  | .hbm, ⟨4, _⟩ => ⟨S16x768x1024, .f32⟩
  | .hbm, ⟨5, _⟩ => ⟨S4325376x128, .f32⟩
  | .hbm, ⟨6, _⟩ => ⟨S_, .f32⟩
  | .hbm, ⟨7, _⟩ => ⟨S4096x128, .f32⟩
  | .hbm, ⟨8, _⟩ => ⟨S4329472x128, .f32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S148, .i32⟩
  | .hbm, ⟨37, _⟩ => ⟨S148x1, .i32⟩
  | .hbm, ⟨38, _⟩ => ⟨S16, .i32⟩
  | .hbm, ⟨39, _⟩ => ⟨S1x16, .i32⟩
  | .hbm, ⟨40, _⟩ => ⟨S148x16, .i32⟩
  | .hbm, ⟨41, _⟩ => ⟨S148x16, .i32⟩
  | .hbm, ⟨42, _⟩ => ⟨S148x16, .i1⟩
  | .hbm, ⟨43, _⟩ => ⟨S148x1, .i32⟩
  | .hbm, ⟨44, _⟩ => ⟨S1x16, .i32⟩
  | .hbm, ⟨45, _⟩ => ⟨S148x16, .i32⟩
  | .hbm, ⟨46, _⟩ => ⟨S148x16, .i32⟩
  | .hbm, ⟨47, _⟩ => ⟨S148x16, .i1⟩
  | .hbm, ⟨48, _⟩ => ⟨S148x16, .i1⟩
  | .hbm, ⟨49, _⟩ => ⟨S16, .i32⟩
  | .hbm, ⟨50, _⟩ => ⟨S1x16, .i32⟩
  | .hbm, ⟨51, _⟩ => ⟨S148x16, .i32⟩
  | .hbm, ⟨52, _⟩ => ⟨S148x16, .i32⟩
  | .hbm, ⟨53, _⟩ => ⟨S148x16, .i32⟩
  | .hbm, ⟨54, _⟩ => ⟨S_, .i32⟩
  | .hbm, ⟨55, _⟩ => ⟨S148, .i32⟩
  | .hbm, ⟨56, _⟩ => ⟨S16, .i32⟩
  | .hbm, ⟨57, _⟩ => ⟨S1x16, .i32⟩
  | .hbm, ⟨58, _⟩ => ⟨S148x16, .i32⟩
  | .hbm, ⟨59, _⟩ => ⟨S148x16, .i32⟩
  | .hbm, ⟨60, _⟩ => ⟨S148x16, .i32⟩
  | .hbm, ⟨61, _⟩ => ⟨S_, .i32⟩
  | .hbm, ⟨62, _⟩ => ⟨S148, .i32⟩
  | .hbm, ⟨63, _⟩ => ⟨S148, .i32⟩
  | .hbm, ⟨64, _⟩ => ⟨S1, .i32⟩
  | .hbm, ⟨65, _⟩ => ⟨S_, .i32⟩
  | .hbm, ⟨66, _⟩ => ⟨S148, .i32⟩
  | .hbm, ⟨67, _⟩ => ⟨S148, .i1⟩
  | .hbm, ⟨68, _⟩ => ⟨S_, .i32⟩
  | .hbm, ⟨69, _⟩ => ⟨S_, .i32⟩
  | .hbm, ⟨70, _⟩ => ⟨S148, .i32⟩
  | .hbm, ⟨71, _⟩ => ⟨S_, .i32⟩
  | .hbm, ⟨72, _⟩ => ⟨S148, .i32⟩
  | .hbm, ⟨73, _⟩ => ⟨S148, .i32⟩
  | .hbm, ⟨74, _⟩ => ⟨S148, .i32⟩
  | .hbm, ⟨75, _⟩ => ⟨S_, .i32⟩
  | .hbm, ⟨76, _⟩ => ⟨S_, .i32⟩
  | .hbm, ⟨77, _⟩ => ⟨S148, .i32⟩
  | .hbm, ⟨78, _⟩ => ⟨S1x16x1024x768, .f32⟩
  | .hbm, ⟨79, _⟩ => ⟨S1x16x1024x768, .f32⟩
  | .hbm, ⟨80, _⟩ => ⟨S1x16x768x1024, .f32⟩
  | .hbm, ⟨81, _⟩ => ⟨S4329472x128, .f32⟩
  | .hbm, ⟨82, _⟩ => ⟨S4325376x128, .f32⟩
  | .hbm, ⟨83, _⟩ => ⟨S16x33792x1024, .f32⟩
  | .hbm, ⟨84, _⟩ => ⟨S33792, .i32⟩
  | .hbm, ⟨85, _⟩ => ⟨S1x33792x1, .i32⟩
  | .hbm, ⟨86, _⟩ => ⟨S16x1x1, .i32⟩
  | .hbm, ⟨87, _⟩ => ⟨S16x33792x1, .i32⟩
  | .hbm, ⟨88, _⟩ => ⟨S16x33792x1, .i32⟩
  | .hbm, ⟨89, _⟩ => ⟨S16x33792x1, .i1⟩
  | .hbm, ⟨90, _⟩ => ⟨S_, .f32⟩
  | .hbm, ⟨91, _⟩ => ⟨S_, .f32⟩
  | .hbm, ⟨92, _⟩ => ⟨S16x33792x1024, .i1⟩
  | .hbm, ⟨93, _⟩ => ⟨S16x33792x1024, .f32⟩
  | .hbm, ⟨94, _⟩ => ⟨S16x33792x1024, .f32⟩
  | .local _ .vmem, ⟨0, _⟩ => ⟨S4096x128, .f32⟩
  | .local _ .vmem, ⟨1, _⟩ => ⟨S4096x128, .f32⟩
  | .local _ .vmem, ⟨2, _⟩ => ⟨S1x1x1024x768, .f32⟩
  | .local _ .vmem, ⟨3, _⟩ => ⟨S1x1x1024x768, .f32⟩
  | .local _ .vmem, ⟨4, _⟩ => ⟨S1x1x1024x768, .f32⟩
  | .local _ .vmem, ⟨5, _⟩ => ⟨S1x1x1024x768, .f32⟩
  | .local _ .vmem, ⟨6, _⟩ => ⟨S1x1x768x1024, .f32⟩
  | .local _ .vmem, ⟨7, _⟩ => ⟨S1x1x768x1024, .f32⟩
  | .local _ .vmem, ⟨8, _⟩ => ⟨S4096x128, .f32⟩
  | .local _ .vmem, ⟨9, _⟩ => ⟨S4096x128, .f32⟩
  | .local _ .vmem, ⟨10, _⟩ => ⟨S1024x768, .bf16⟩
  | .local _ .vmem, ⟨11, _⟩ => ⟨S1024x768, .bf16⟩
  | .local _ .vmem, ⟨12, _⟩ => ⟨S768x1024, .bf16⟩
  | .local _ .smem, ⟨0, _⟩ => ⟨S148, .i32⟩
  | .local _ .smem, ⟨1, _⟩ => ⟨S148, .i32⟩
  | .local _ .smem, ⟨2, _⟩ => ⟨S1, .i32⟩
  | _, _ => ⟨S16x33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_4 : Ref sig .tc := ⟨.hbm, 68, rfl⟩
abbrev main_call2_v0 : Ref sig .tc := ⟨.hbm, 69, rfl⟩
abbrev main_call2_v1 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_6 : Ref sig .tc := ⟨.hbm, 75, rfl⟩
abbrev main_call3_v0 : Ref sig .tc := ⟨.hbm, 76, rfl⟩
abbrev main_call3_v1 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v57 : Ref sig .tc := ⟨.hbm, 94, rfl⟩
abbrev main_v39 : Ref sig .tc := ⟨.smem, 0, rfl⟩
abbrev main_v43 : Ref sig .tc := ⟨.smem, 1, rfl⟩
abbrev main_v44 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![148], ![false]⟩

abbrev pre0 : Pipeline.Prefetch sig := ⟨3, ![main_v39.idx, main_v43.idx, main_v44.idx], fun | 0 => main_v39.names | 1 => main_v43.names | 2 => main_v44.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S148.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S148) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S148.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S148) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16x33792x1024 : Shape := ⟨3, ![16, 33792, 1024]⟩
abbrev S16 : Shape := ⟨1, ![16]⟩
abbrev S16x1024x768 : Shape := ⟨3, ![16, 1024, 768]⟩
abbrev S16x768x1024 : Shape := ⟨3, ![16, 768, 1024]⟩
abbrev S16x33792x768 : Shape := ⟨3, ![16, 33792, 768]⟩
abbrev S_ : Shape := ⟨0, ![]⟩
abbrev S33792 : Shape := ⟨1, ![33792]⟩
abbrev S1x33792x1 : Shape := ⟨3, ![1, 33792, 1]⟩
abbrev S16x1x1 : Shape := ⟨3, ![16, 1, 1]⟩
abbrev S16x33792x1 : Shape := ⟨3, ![16, 33792, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x33792x1024, .f32⟩
  | .hbm, ⟨1, _⟩ => ⟨S16, .i32⟩
  | .hbm, ⟨2, _⟩ => ⟨S16x1024x768, .f32⟩
  | .hbm, ⟨3, _⟩ => ⟨S16x1024x768, .f32⟩
  | .hbm, ⟨4, _⟩ => ⟨S16x768x1024, .f32⟩
  | .hbm, ⟨5, _⟩ => ⟨S16x33792x768, .f32⟩
  | .hbm, ⟨6, _⟩ => ⟨S16x33792x768, .f32⟩
  | .hbm, ⟨7, _⟩ => ⟨S16x33792x768, .f32⟩
  | .hbm, ⟨8, _⟩ => ⟨S_, .f32⟩
  | .hbm, ⟨9, _⟩ => ⟨S16x33792x768, .f32⟩
  | .hbm, ⟨10, _⟩ => ⟨S16x33792x768, .f32⟩
  | .hbm, ⟨11, _⟩ => ⟨S_, .f32⟩
  | .hbm, ⟨12, _⟩ => ⟨S16x33792x768, .f32⟩
  | .hbm, ⟨13, _⟩ => ⟨S16x33792x768, .f32⟩
  | .hbm, ⟨14, _⟩ => ⟨S16x33792x768, .f32⟩
  | .hbm, ⟨15, _⟩ => ⟨S16x33792x768, .f32⟩
  | .hbm, ⟨16, _⟩ => ⟨S16x33792x768, .f32⟩
  | .hbm, ⟨17, _⟩ => ⟨S16x33792x1024, .f32⟩
  | .hbm, ⟨18, _⟩ => ⟨S33792, .i32⟩
  | .hbm, ⟨19, _⟩ => ⟨S1x33792x1, .i32⟩
  | .hbm, ⟨20, _⟩ => ⟨S16x1x1, .i32⟩
  | .hbm, ⟨21, _⟩ => ⟨S16x33792x1, .i32⟩
  | .hbm, ⟨22, _⟩ => ⟨S16x33792x1, .i32⟩
  | .hbm, ⟨23, _⟩ => ⟨S16x33792x1, .i1⟩
  | .hbm, ⟨24, _⟩ => ⟨S_, .f32⟩
  | .hbm, ⟨25, _⟩ => ⟨S_, .f32⟩
  | .hbm, ⟨26, _⟩ => ⟨S16x33792x1024, .i1⟩
  | .hbm, ⟨27, _⟩ => ⟨S16x33792x1024, .f32⟩
  | .hbm, ⟨28, _⟩ => ⟨S16x33792x1024, .f32⟩
  | _, _ => ⟨S16x33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩

abbrev nD : Nat := 1
abbrev τ : Topo := Topo.v7x

variable {F : FTy → Type} [FloatOps F]
-- ==== Proof.Trip.lean ====
/- One trip of the kernel's loop over the key chunks, and the loop: what they leave in the accumulator and in the
   first probability buffer, as functions of what they find there. -/
module

public import proofs.«01_k».proof.Proof.Gen.KernelIdeal.Frame.Runs
public import Idealize.ShloMosaic.Lib.Pipeline.ReadBack
public import Idealize.ShloMosaic.Lib.VecWindow

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.Sem

variable {F : FTy → Type} [FloatOps F]

/-- The probabilities (not normalised) of a chunk of 512 keys for a head's 512 queries: `2 ^ (key · query)`. -/
abbrev probL (q : FVec F S64x512 .bf16) (k : FVec F S512x64 .bf16) : FVec F S512x512 .bf16 := k0_pay9 q k

/-- The same for the 256 context keys. -/
abbrev probC (q : FVec F S64x512 .bf16) (k : FVec F S256x64 .bf16) : FVec F S256x512 .bf16 := k0_pay113 q k

/-- A head's accumulator after a chunk: what it held, and the chunk's values times its probabilities. -/
abbrev accL (v : FVec F S80x512 .bf16) (a : Vec F S1x80x512 .f32) (p : Vec F S512x512 .bf16) : FVec F S1x80x512 .f32 :=
  k0_pay10 v a p

/-- A head's accumulator after the context keys. -/
abbrev accC (v : FVec F S80x256 .bf16) (p : Vec F S256x512 .bf16) : FVec F S1x80x512 .f32 := k0_pay114 v p

theorem slab_inb (h : Fin 32) : ∀ a : Fin 3, (![h.val, 0, 0] : Fin 3 → ℕ) a + S1x80x512.size a ≤ S32x80x512.size a := by
  intro a
  have := h.isLt
  fin_cases a
  · show h.val + 1 ≤ 32
    omega
  · exact Nat.le_refl _
  · exact Nat.le_refl _

/-- Head `h`'s part of the accumulator. -/
abbrev slab (h : Fin 32) : Rect S32x80x512 := Rect.unit ![h.val, 0, 0] S1x80x512.size (slab_inb h)

/-- The index of an accumulator's element within its head's part. -/
def inSlab (y : S32x80x512.Idx) : S1x80x512.Idx := fun a => match a with
  | ⟨0, _⟩ => ⟨0, Nat.one_pos⟩
  | ⟨1, _⟩ => y 1
  | ⟨2, _⟩ => y 2

/-- The accumulator whose heads' parts are `f`. -/
def heads {α : Type} (f : Fin 32 → S1x80x512.Idx → α) : S32x80x512.Idx → α := fun y => f (y 0) (inSlab y)

theorem slab_emb_zero (h : Fin 32) (x : S1x80x512.Idx) : (slab h).emb x 0 = h := by
  apply Fin.ext
  show h.val + 1 * (x 0).val = h.val
  have : (x 0).val < 1 := (x 0).isLt
  omega

theorem inSlab_emb (h : Fin 32) (x : S1x80x512.Idx) : inSlab ((slab h).emb x) = x := by
  funext a
  have h0 : (x 0).val < 1 := (x 0).isLt
  fin_cases a
  · apply Fin.ext
    show 0 = (x 0).val
    omega
  · apply Fin.ext
    show 0 + 1 * (x 1).val = (x 1).val
    omega
  · apply Fin.ext
    show 0 + 1 * (x 2).val = (x 2).val
    omega

theorem heads_emb {α : Type} (f : Fin 32 → S1x80x512.Idx → α) (h : Fin 32) (x : S1x80x512.Idx) :
    heads f ((slab h).emb x) = f h x := by
  show f ((slab h).emb x 0) (inSlab ((slab h).emb x)) = f h x
  rw [slab_emb_zero, inSlab_emb]

/-- A payload that is head `h`'s part is a block of the whole. -/
theorem heads_piece {α : Type} (f : Fin 32 → S1x80x512.Idx → α) (h : Fin 32) (g : S1x80x512.Idx → α) (e : g = f h)
    (x : S1x80x512.Idx) : g x = heads f ((slab h).emb x) := by
  rw [heads_emb, e]

/-- Head `h`'s part of an accumulator `Y`. -/
abbrev part {α : Type} (Y : S32x80x512.Idx → α) (h : Fin 32) : S1x80x512.Idx → α := fun x => Y ((slab h).emb x)

theorem part_heads {α : Type} (f : Fin 32 → S1x80x512.Idx → α) (h : Fin 32) : part (heads f) h = f h :=
  funext fun x => heads_emb f h x

/-- Two accumulators whose heads' payloads are given by equal probabilities. -/
theorem accL_piece (v : FVec F S80x512 .bf16) (Y : Vec F S32x80x512 .f32) (p : Fin 32 → Vec F S512x512 .bf16)
    (h : Fin 32) (P : Vec F S512x512 .bf16) (e : P = p h) (x : S1x80x512.Idx) :
    accL v (part Y h) P x = heads (fun h => accL v (part Y h) (p h)) ((slab h).emb x) :=
  heads_piece _ h _ (by rw [e]) x

section Trip

variable (c : Dev nD) (i : grid0.Coords)
  (arg3 : Memref sig .tc .vmem S8x256x512 .bf16) (harg3 : arg3.IsWhole)
  (arg4 : Memref sig .tc .vmem S1x256x64 .bf16) (harg4 : arg4.IsWhole)
  (arg5 : Memref sig .tc .vmem S1x8192x64 .bf16) (harg5 : arg5.IsWhole)
  (arg6 : Memref sig .tc .vmem S1x80x256 .bf16) (harg6 : arg6.IsWhole)
  (arg7 : Memref sig .tc .vmem S16x80x512 .bf16) (harg7 : arg7.IsWhole)
  (arg8 : Memref sig .tc .vmem S8x256x512 .bf16) (harg8 : arg8.IsWhole)
  (arg9 : Memref sig .tc .vmem S32x80x512 .f32) (harg9 : arg9.IsWhole)
  (arg10 : Memref sig .tc .vmem S512x512 .bf16) (harg10 : arg10.IsWhole)
  (arg11 : Memref sig .tc .vmem S512x512 .bf16) (harg11 : arg11.IsWhole)
  (q : Fin 32 → FVec F S64x512 .bf16) (v65 : FVec F S256x64 .bf16) (v67 : FVec F S80x256 .bf16) (v400 : FVec F S80x512 .f32) (v401 : Vec F S1x80x512 .f32)
  (X5 : BufTy.Contents (Elt F) arg5.view.ty) (X7 : BufTy.Contents (Elt F) arg7.view.ty)

/-- Chunk `k` of the latent keys, as the loop loads it. -/
abbrev keyC (k : Fin k0_t1_loop.trips) : FVec F S512x64 .bf16 :=
  k0_pay2 (View.readAt (Elt F) arg5.view (Rect.unit (s := S1x8192x64) (k0_off1 k) S1x512x64.size (k0_off1_inb k)).toLoadRect X5)

/-- The chunk that trip `k` prepares for the next one. -/
abbrev keyN (k : Fin k0_t1_loop.trips) : FVec F S512x64 .bf16 :=
  k0_pay2 (View.readAt (Elt F) arg5.view (Rect.unit (s := S1x8192x64) (k0_off3 k) S1x512x64.size (k0_off3_inb k)).toLoadRect X5)

/-- Chunk `k` of the latent values. -/
abbrev valC (k : Fin k0_t1_loop.trips) : FVec F S80x512 .bf16 :=
  k0_pay3 (View.readAt (Elt F) arg7.view (Rect.unit (s := S16x80x512) (k0_off2 k) S1x80x512.size (k0_off2_inb k)).toLoadRect X7)

/-- The probabilities that trip `k` finds or computes, head by head: the first head's are in the buffer. -/
def probsT (k : Fin k0_t1_loop.trips) (p0 : Vec F S512x512 .bf16) (h : Fin 32) : Vec F S512x512 .bf16 :=
  if h = 0 then p0 else probL (q h) (keyC arg5 X5 k)

variable (k : Fin k0_t1_loop.trips)
  (f9 : BufTy.Contents (Elt F) arg9.view.ty) (f10 : BufTy.Contents (Elt F) arg10.view.ty) (f11 : BufTy.Contents (Elt F) arg11.view.ty)

/-- A trip's stores into the accumulator: every head's part, the chunk added. -/
theorem trip_acc : View.PiecesOf (heads fun h => accL (valC arg7 X7 k) (part (arg9.view.read (Elt F) f9) h)
      (probsT arg5 q X5 k (arg10.view.read (Elt F) f10) h))
    ((trip_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 k).1 f9 f10 f11) := by
  unfold trip_k0_t1
  dsimp only
  refine ⟨?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_,
    ?_, trivial⟩
  · exact accL_piece (valC arg7 X7 k) (arg9.view.read (Elt F) f9) (probsT arg5 q X5 k (arg10.view.read (Elt F) f10)) 31 _ (View.readCov_full _ _ _ _ _)
  · exact accL_piece (valC arg7 X7 k) (arg9.view.read (Elt F) f9) (probsT arg5 q X5 k (arg10.view.read (Elt F) f10)) 30 _ (View.readCov_full _ _ _ _ _)
  · exact accL_piece (valC arg7 X7 k) (arg9.view.read (Elt F) f9) (probsT arg5 q X5 k (arg10.view.read (Elt F) f10)) 29 _ (View.readCov_full _ _ _ _ _)
  · exact accL_piece (valC arg7 X7 k) (arg9.view.read (Elt F) f9) (probsT arg5 q X5 k (arg10.view.read (Elt F) f10)) 28 _ (View.readCov_full _ _ _ _ _)
  · exact accL_piece (valC arg7 X7 k) (arg9.view.read (Elt F) f9) (probsT arg5 q X5 k (arg10.view.read (Elt F) f10)) 27 _ (View.readCov_full _ _ _ _ _)
  · exact accL_piece (valC arg7 X7 k) (arg9.view.read (Elt F) f9) (probsT arg5 q X5 k (arg10.view.read (Elt F) f10)) 26 _ (View.readCov_full _ _ _ _ _)
  · exact accL_piece (valC arg7 X7 k) (arg9.view.read (Elt F) f9) (probsT arg5 q X5 k (arg10.view.read (Elt F) f10)) 25 _ (View.readCov_full _ _ _ _ _)
  · exact accL_piece (valC arg7 X7 k) (arg9.view.read (Elt F) f9) (probsT arg5 q X5 k (arg10.view.read (Elt F) f10)) 24 _ (View.readCov_full _ _ _ _ _)
  · exact accL_piece (valC arg7 X7 k) (arg9.view.read (Elt F) f9) (probsT arg5 q X5 k (arg10.view.read (Elt F) f10)) 23 _ (View.readCov_full _ _ _ _ _)
  · exact accL_piece (valC arg7 X7 k) (arg9.view.read (Elt F) f9) (probsT arg5 q X5 k (arg10.view.read (Elt F) f10)) 22 _ (View.readCov_full _ _ _ _ _)
  · exact accL_piece (valC arg7 X7 k) (arg9.view.read (Elt F) f9) (probsT arg5 q X5 k (arg10.view.read (Elt F) f10)) 21 _ (View.readCov_full _ _ _ _ _)
  · exact accL_piece (valC arg7 X7 k) (arg9.view.read (Elt F) f9) (probsT arg5 q X5 k (arg10.view.read (Elt F) f10)) 20 _ (View.readCov_full _ _ _ _ _)
  · exact accL_piece (valC arg7 X7 k) (arg9.view.read (Elt F) f9) (probsT arg5 q X5 k (arg10.view.read (Elt F) f10)) 19 _ (View.readCov_full _ _ _ _ _)
  · exact accL_piece (valC arg7 X7 k) (arg9.view.read (Elt F) f9) (probsT arg5 q X5 k (arg10.view.read (Elt F) f10)) 18 _ (View.readCov_full _ _ _ _ _)
  · exact accL_piece (valC arg7 X7 k) (arg9.view.read (Elt F) f9) (probsT arg5 q X5 k (arg10.view.read (Elt F) f10)) 17 _ (View.readCov_full _ _ _ _ _)
  · exact accL_piece (valC arg7 X7 k) (arg9.view.read (Elt F) f9) (probsT arg5 q X5 k (arg10.view.read (Elt F) f10)) 16 _ (View.readCov_full _ _ _ _ _)
  · exact accL_piece (valC arg7 X7 k) (arg9.view.read (Elt F) f9) (probsT arg5 q X5 k (arg10.view.read (Elt F) f10)) 15 _ (View.readCov_full _ _ _ _ _)
  · exact accL_piece (valC arg7 X7 k) (arg9.view.read (Elt F) f9) (probsT arg5 q X5 k (arg10.view.read (Elt F) f10)) 14 _ (View.readCov_full _ _ _ _ _)
  · exact accL_piece (valC arg7 X7 k) (arg9.view.read (Elt F) f9) (probsT arg5 q X5 k (arg10.view.read (Elt F) f10)) 13 _ (View.readCov_full _ _ _ _ _)
  · exact accL_piece (valC arg7 X7 k) (arg9.view.read (Elt F) f9) (probsT arg5 q X5 k (arg10.view.read (Elt F) f10)) 12 _ (View.readCov_full _ _ _ _ _)
  · exact accL_piece (valC arg7 X7 k) (arg9.view.read (Elt F) f9) (probsT arg5 q X5 k (arg10.view.read (Elt F) f10)) 11 _ (View.readCov_full _ _ _ _ _)
  · exact accL_piece (valC arg7 X7 k) (arg9.view.read (Elt F) f9) (probsT arg5 q X5 k (arg10.view.read (Elt F) f10)) 10 _ (View.readCov_full _ _ _ _ _)
  · exact accL_piece (valC arg7 X7 k) (arg9.view.read (Elt F) f9) (probsT arg5 q X5 k (arg10.view.read (Elt F) f10)) 9 _ (View.readCov_full _ _ _ _ _)
  · exact accL_piece (valC arg7 X7 k) (arg9.view.read (Elt F) f9) (probsT arg5 q X5 k (arg10.view.read (Elt F) f10)) 8 _ (View.readCov_full _ _ _ _ _)
  · exact accL_piece (valC arg7 X7 k) (arg9.view.read (Elt F) f9) (probsT arg5 q X5 k (arg10.view.read (Elt F) f10)) 7 _ (View.readCov_full _ _ _ _ _)
  · exact accL_piece (valC arg7 X7 k) (arg9.view.read (Elt F) f9) (probsT arg5 q X5 k (arg10.view.read (Elt F) f10)) 6 _ (View.readCov_full _ _ _ _ _)
  · exact accL_piece (valC arg7 X7 k) (arg9.view.read (Elt F) f9) (probsT arg5 q X5 k (arg10.view.read (Elt F) f10)) 5 _ (View.readCov_full _ _ _ _ _)
  · exact accL_piece (valC arg7 X7 k) (arg9.view.read (Elt F) f9) (probsT arg5 q X5 k (arg10.view.read (Elt F) f10)) 4 _ (View.readCov_full _ _ _ _ _)
  · exact accL_piece (valC arg7 X7 k) (arg9.view.read (Elt F) f9) (probsT arg5 q X5 k (arg10.view.read (Elt F) f10)) 3 _ (View.readCov_full _ _ _ _ _)
  · exact accL_piece (valC arg7 X7 k) (arg9.view.read (Elt F) f9) (probsT arg5 q X5 k (arg10.view.read (Elt F) f10)) 2 _ (View.readCov_full _ _ _ _ _)
  · exact accL_piece (valC arg7 X7 k) (arg9.view.read (Elt F) f9) (probsT arg5 q X5 k (arg10.view.read (Elt F) f10)) 1 _ (View.readCov_full _ _ _ _ _)
  · exact accL_piece (valC arg7 X7 k) (arg9.view.read (Elt F) f9) (probsT arg5 q X5 k (arg10.view.read (Elt F) f10)) 0 _ (View.readAt_full _ _ _)

theorem trip_cover (y : S32x80x512.Idx) : ∃ pc ∈ (trip_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 k).1 f9 f10 f11, y ∈ pc.1.set :=
  View.cover_of_tiledL ((trip_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 k).1 f9 f10 f11) S1x80x512.size (by sl_kernel_rfl) y

/-- A trip leaves in the first probability buffer the first head's probabilities of the next chunk. -/
theorem trip_prob : arg10.view.read (Elt F) (arg10.view.writes (Elt F) f10 ((trip_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 k).2.1 f9 f10 f11)) = probL (q 0) (keyN arg5 X5 k) := by
  unfold trip_k0_t1
  exact View.read_writes_full _ _ _ _ _

theorem trip_read : arg9.view.read (Elt F) (arg9.view.writes (Elt F) f9 ((trip_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 k).1 f9 f10 f11))
    = heads fun h => accL (valC arg7 X7 k) (part (arg9.view.read (Elt F) f9) h) (probsT arg5 q X5 k (arg10.view.read (Elt F) f10) h) := by
  rw [View.read_writes_eq_canon _ _ _ (trip_cover c i arg3 harg3 arg4 harg4 arg5 harg5 arg6 harg6 arg7 harg7 arg8 harg8 arg9 harg9 arg10 harg10 arg11 harg11 q v65 v67 v400 v401 X5 X7 k f9 f10 f11)]
  funext y
  have := View.canon_append_of_piecesOf _ [] _ (trip_acc c i arg3 harg3 arg4 harg4 arg5 harg5 arg6 harg6 arg7 harg7 arg8 harg8 arg9 harg9 arg10 harg10 arg11 harg11 q v65 v67 v400 v401 X5 X7 k f9 f10 f11) y
    (trip_cover c i arg3 harg3 arg4 harg4 arg5 harg5 arg6 harg6 arg7 harg7 arg8 harg8 arg9 harg9 arg10 harg10 arg11 harg11 q v65 v67 v400 v401 X5 X7 k f9 f10 f11 y)
  rwa [List.append_nil] at this

end Trip

end Cert.Attention

end
-- ==== Proof.Loop.lean ====
/- The kernel's loop over the key chunks: the accumulator after any number of trips, and the block that the kernel
   stores. -/
module

public import proofs.«01_k».proof.Proof.Trip

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.Sem

variable {F : FTy → Type} [FloatOps F]

/-- The accumulator, head by head, after `n` chunks of latent keys. -/
def accAt (q : Fin 32 → FVec F S64x512 .bf16) (K : Fin k0_t1_loop.trips → FVec F S512x64 .bf16)
    (V : Fin k0_t1_loop.trips → FVec F S80x512 .bf16) (A : Fin 32 → Vec F S1x80x512 .f32) : ℕ → Fin 32 → Vec F S1x80x512 .f32
  | 0 => A
  | n + 1 => fun h => if hn : n < k0_t1_loop.trips then accL (V ⟨n, hn⟩) (accAt q K V A n h) (probL (q h) (K ⟨n, hn⟩))
      else accAt q K V A n h

theorem off3_eq_off1 : ∀ (k : Fin k0_t1_loop.trips) (h : k.val + 1 < k0_t1_loop.trips), k0_off3 k = k0_off1 ⟨k.val + 1, h⟩ := by
  decide +kernel

section Loop

variable (c : Dev nD) (i : grid0.Coords)
  (arg3 : Memref sig .tc .vmem S8x256x512 .bf16) (harg3 : arg3.IsWhole)
  (arg4 : Memref sig .tc .vmem S1x256x64 .bf16) (harg4 : arg4.IsWhole)
  (arg5 : Memref sig .tc .vmem S1x8192x64 .bf16) (harg5 : arg5.IsWhole)
  (arg6 : Memref sig .tc .vmem S1x80x256 .bf16) (harg6 : arg6.IsWhole)
  (arg7 : Memref sig .tc .vmem S16x80x512 .bf16) (harg7 : arg7.IsWhole)
  (arg8 : Memref sig .tc .vmem S8x256x512 .bf16) (harg8 : arg8.IsWhole)
  (arg9 : Memref sig .tc .vmem S32x80x512 .f32) (harg9 : arg9.IsWhole)
  (arg10 : Memref sig .tc .vmem S512x512 .bf16) (harg10 : arg10.IsWhole)
  (arg11 : Memref sig .tc .vmem S512x512 .bf16) (harg11 : arg11.IsWhole)
  (q : Fin 32 → FVec F S64x512 .bf16) (v65 : FVec F S256x64 .bf16) (v67 : FVec F S80x256 .bf16) (v400 : FVec F S80x512 .f32) (v401 : Vec F S1x80x512 .f32)
  (X5 : BufTy.Contents (Elt F) arg5.view.ty) (X7 : BufTy.Contents (Elt F) arg7.view.ty)

theorem keyN_eq (k : Fin k0_t1_loop.trips) (h : k.val + 1 < k0_t1_loop.trips) : keyN arg5 X5 k = keyC arg5 X5 ⟨k.val + 1, h⟩ := by
  have e : ∀ (o o' : Fin 3 → ℕ) (hb : ∀ a, o a + S1x512x64.size a ≤ S1x8192x64.size a)
      (hb' : ∀ a, o' a + S1x512x64.size a ≤ S1x8192x64.size a), o = o' →
      k0_pay2 (View.readAt (Elt F) arg5.view (Rect.unit (s := S1x8192x64) o S1x512x64.size hb).toLoadRect X5)
        = k0_pay2 (View.readAt (Elt F) arg5.view (Rect.unit (s := S1x8192x64) o' S1x512x64.size hb').toLoadRect X5) := by
    rintro o _ hb hb' rfl
    rfl
  exact e _ _ _ _ (off3_eq_off1 k h)

variable (G9 : BufTy.Contents (Elt F) arg9.view.ty) (G10 : BufTy.Contents (Elt F) arg10.view.ty) (G11 : BufTy.Contents (Elt F) arg11.view.ty)
  (A : Fin 32 → Vec F S1x80x512 .f32) (h9 : arg9.view.read (Elt F) G9 = heads A)
  (h10 : ∀ h0, arg10.view.read (Elt F) G10 = probL (q 0) (keyC arg5 X5 ⟨0, h0⟩))

include h9 h10 in
/-- Before trip `n` the accumulator holds the first `n` chunks and the buffer the first head's next probabilities. -/
theorem loop_inv : ∀ n, n ≤ k0_t1_loop.trips →
    arg9.view.read (Elt F) (arg9.view.writes (Elt F) G9 (pb_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 G9 G10 G11 n).1) = heads (accAt q (keyC arg5 X5) (valC arg7 X7) A n)
    ∧ ∀ hn : n < k0_t1_loop.trips, arg10.view.read (Elt F) (arg10.view.writes (Elt F) G10 (pb_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 G9 G10 G11 n).2.1) = probL (q 0) (keyC arg5 X5 ⟨n, hn⟩) := by
  intro n
  induction n with
  | zero => exact fun _ => ⟨h9, h10⟩
  | succ n ih =>
    intro hn
    have hlt : n < k0_t1_loop.trips := hn
    obtain ⟨i9, i10⟩ := ih (Nat.le_of_lt hlt)
    have es := pb_k0_t1_succ (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 G9 G10 G11 ⟨n, hlt⟩
    dsimp only at es
    rw [es]
    constructor
    · rw [View.writes_append]
      refine (trip_read c i arg3 harg3 arg4 harg4 arg5 harg5 arg6 harg6 arg7 harg7 arg8 harg8 arg9 harg9 arg10 harg10 arg11 harg11 q v65 v67 v400 v401 X5 X7 ⟨n, hlt⟩ _ _ _).trans ?_
      rw [i9, i10 hlt]
      congr 1
      funext h
      rw [part_heads]
      show accL _ _ _ = dite _ _ _
      rw [dif_pos hlt]
      congr 1
      by_cases hh : h = 0
      · subst hh
        exact if_pos rfl
      · exact if_neg hh
    · intro hn'
      rw [View.writes_append]
      refine (trip_prob c i arg3 harg3 arg4 harg4 arg5 harg5 arg6 harg6 arg7 harg7 arg8 harg8 arg9 harg9 arg10 harg10 arg11 harg11 q v65 v67 v400 v401 X5 X7 ⟨n, hlt⟩ _ _ _).trans ?_
      rw [keyN_eq arg5 X5 ⟨n, hlt⟩ hn']

include h9 h10 in
theorem loop_read : arg9.view.read (Elt F) (arg9.view.writes (Elt F) G9 (pb_k0_t1 (F := F) Variants.none c none i arg3 harg3 arg4 harg4 arg5 harg5 arg6 harg6 arg7 harg7 arg8 harg8 arg9 harg9 arg10 harg10 arg11 harg11 (q 0) (q 1) (q 2) (q 3) (q 4) (q 5) (q 6) (q 7) (q 8) (q 9) (q 10) (q 11) (q 12) (q 13) (q 14) (q 15) (q 16) (q 17) (q 18) (q 19) (q 20) (q 21) (q 22) (q 23) (q 24) (q 25) (q 26) (q 27) (q 28) (q 29) (q 30) (q 31) v65 v67 v400 v401 X5 X7 G9 G10 G11 (Scf.trips k0_t1_loop.lb k0_t1_loop.ub k0_t1_loop.st)).1)
    = heads (accAt q (keyC arg5 X5) (valC arg7 X7) A k0_t1_loop.trips) :=
  (loop_inv c i arg3 harg3 arg4 harg4 arg5 harg5 arg6 harg6 arg7 harg7 arg8 harg8 arg9 harg9 arg10 harg10 arg11 harg11 q v65 v67 v400 v401 X5 X7 G9 G10 G11 A h9 h10 k0_t1_loop.trips (Nat.le_refl _)).1

end Loop

/-- A read of head `h`'s part of the accumulator, after the stores before the loop and those of the loop. -/
theorem readCov_slab (arg9 : Memref sig .tc .vmem S32x80x512 .f32) (L L0 : List (View.Piece (Elt F) S32x80x512 .f32)) (f : Fin 32 → Vec F S1x80x512 .f32)
    (e : arg9.view.read (Elt F) (arg9.view.writes (Elt F) (arg9.view.writes (Elt F) arg9.view.junk L0) L) = heads f) (h : Fin 32) :
    arg9.view.readCov (L ++ L0) (slab h).toLoadRect = f h := by
  show View.readAt (Elt F) arg9.view (slab h).toLoadRect (arg9.view.writes (Elt F) arg9.view.junk (L ++ L0)) = f h
  rw [View.writes_append]
  exact (congrArg (fun Y => part Y h) e).trans (part_heads f h)

/-- A head's output: its rows of the accumulator over its sum row. -/
abbrev fin (a : Vec F S1x80x512 .f32) : FVec F S1x64x512 .bf16 := k0_pay185 a

theorem blk_inb (h : Fin 32) : ∀ a : Fin 3, (![h.val / 4, 64 * (h.val % 4), 0] : Fin 3 → ℕ) a + S1x64x512.size a ≤ S8x256x512.size a := by
  intro a
  have := h.isLt
  fin_cases a
  · show h.val / 4 + 1 ≤ 8
    omega
  · show 64 * (h.val % 4) + 64 ≤ 256
    omega
  · exact Nat.le_refl _

/-- Head `h`'s part of the query block and of the output block: a tile of 512 queries has four heads. -/
abbrev blk (h : Fin 32) : Rect S8x256x512 := Rect.unit ![h.val / 4, 64 * (h.val % 4), 0] S1x64x512.size (blk_inb h)

/-- The head an element of the output block belongs to. -/
def headOf (y : S8x256x512.Idx) : Fin 32 :=
  ⟨4 * (y 0).val + (y 1).val / 64, by
    have h0 : (y 0).val < 8 := (y 0).isLt
    have h1 : (y 1).val < 256 := (y 1).isLt
    omega⟩

/-- Its index within the head's part. -/
def inBlk (y : S8x256x512.Idx) : S1x64x512.Idx := fun a => match a with
  | ⟨0, _⟩ => ⟨0, Nat.one_pos⟩
  | ⟨1, _⟩ => ⟨(y 1).val % 64, Nat.mod_lt _ (by decide)⟩
  | ⟨2, _⟩ => y 2

/-- The block whose heads' parts are `f`. -/
def blocks {α : Type} (f : Fin 32 → S1x64x512.Idx → α) : S8x256x512.Idx → α := fun y => f (headOf y) (inBlk y)

theorem blocks_emb {α : Type} (f : Fin 32 → S1x64x512.Idx → α) (h : Fin 32) (x : S1x64x512.Idx) :
    blocks f ((blk h).emb x) = f h x := by
  have h0 : (x 0).val < 1 := (x 0).isLt
  have h1 : (x 1).val < 64 := (x 1).isLt
  have e1 : headOf ((blk h).emb x) = h := by
    apply Fin.ext
    show 4 * (h.val / 4 + 1 * (x 0).val) + (64 * (h.val % 4) + 1 * (x 1).val) / 64 = h.val
    omega
  have e2 : inBlk ((blk h).emb x) = x := by
    funext a
    fin_cases a
    · apply Fin.ext
      show 0 = (x 0).val
      omega
    · apply Fin.ext
      show (64 * (h.val % 4) + 1 * (x 1).val) % 64 = (x 1).val
      omega
    · apply Fin.ext
      show 0 + 1 * (x 2).val = (x 2).val
      omega
  show f (headOf ((blk h).emb x)) (inBlk ((blk h).emb x)) = f h x
  rw [e1, e2]

/-- The stores of the accumulator before the loop. -/
theorem base_pieces (vc : FVec F S80x256 .bf16) (kc : FVec F S256x64 .bf16) (q : Fin 32 → FVec F S64x512 .bf16)
    (P0 P1 P2 P3 P4 P5 P6 P7 P8 P9 P10 P11 P12 P13 P14 P15 P16 P17 P18 P19 P20 P21 P22 P23 P24 P25 P26 P27 P28 P29 P30 P31 : Vec F S256x512 .bf16)
    (e0 : P0 = probC (q 0) kc)
    (e1 : P1 = probC (q 1) kc)
    (e2 : P2 = probC (q 2) kc)
    (e3 : P3 = probC (q 3) kc)
    (e4 : P4 = probC (q 4) kc)
    (e5 : P5 = probC (q 5) kc)
    (e6 : P6 = probC (q 6) kc)
    (e7 : P7 = probC (q 7) kc)
    (e8 : P8 = probC (q 8) kc)
    (e9 : P9 = probC (q 9) kc)
    (e10 : P10 = probC (q 10) kc)
    (e11 : P11 = probC (q 11) kc)
    (e12 : P12 = probC (q 12) kc)
    (e13 : P13 = probC (q 13) kc)
    (e14 : P14 = probC (q 14) kc)
    (e15 : P15 = probC (q 15) kc)
    (e16 : P16 = probC (q 16) kc)
    (e17 : P17 = probC (q 17) kc)
    (e18 : P18 = probC (q 18) kc)
    (e19 : P19 = probC (q 19) kc)
    (e20 : P20 = probC (q 20) kc)
    (e21 : P21 = probC (q 21) kc)
    (e22 : P22 = probC (q 22) kc)
    (e23 : P23 = probC (q 23) kc)
    (e24 : P24 = probC (q 24) kc)
    (e25 : P25 = probC (q 25) kc)
    (e26 : P26 = probC (q 26) kc)
    (e27 : P27 = probC (q 27) kc)
    (e28 : P28 = probC (q 28) kc)
    (e29 : P29 = probC (q 29) kc)
    (e30 : P30 = probC (q 30) kc)
    (e31 : P31 = probC (q 31) kc) :
    View.PiecesOf (heads fun h => accC vc (probC (q h) kc))
      ([⟨slab 31, accC vc P31⟩,
        ⟨slab 30, accC vc P30⟩,
        ⟨slab 29, accC vc P29⟩,
        ⟨slab 28, accC vc P28⟩,
        ⟨slab 27, accC vc P27⟩,
        ⟨slab 26, accC vc P26⟩,
        ⟨slab 25, accC vc P25⟩,
        ⟨slab 24, accC vc P24⟩,
        ⟨slab 23, accC vc P23⟩,
        ⟨slab 22, accC vc P22⟩,
        ⟨slab 21, accC vc P21⟩,
        ⟨slab 20, accC vc P20⟩,
        ⟨slab 19, accC vc P19⟩,
        ⟨slab 18, accC vc P18⟩,
        ⟨slab 17, accC vc P17⟩,
        ⟨slab 16, accC vc P16⟩,
        ⟨slab 15, accC vc P15⟩,
        ⟨slab 14, accC vc P14⟩,
        ⟨slab 13, accC vc P13⟩,
        ⟨slab 12, accC vc P12⟩,
        ⟨slab 11, accC vc P11⟩,
        ⟨slab 10, accC vc P10⟩,
        ⟨slab 9, accC vc P9⟩,
        ⟨slab 8, accC vc P8⟩,
        ⟨slab 7, accC vc P7⟩,
        ⟨slab 6, accC vc P6⟩,
        ⟨slab 5, accC vc P5⟩,
        ⟨slab 4, accC vc P4⟩,
        ⟨slab 3, accC vc P3⟩,
        ⟨slab 2, accC vc P2⟩,
        ⟨slab 1, accC vc P1⟩,
        ⟨slab 0, accC vc P0⟩] : List (View.Piece (Elt F) S32x80x512 .f32)) :=
  ⟨heads_piece _ 31 _ (congrArg (accC vc) e31),
   heads_piece _ 30 _ (congrArg (accC vc) e30),
   heads_piece _ 29 _ (congrArg (accC vc) e29),
   heads_piece _ 28 _ (congrArg (accC vc) e28),
   heads_piece _ 27 _ (congrArg (accC vc) e27),
   heads_piece _ 26 _ (congrArg (accC vc) e26),
   heads_piece _ 25 _ (congrArg (accC vc) e25),
   heads_piece _ 24 _ (congrArg (accC vc) e24),
   heads_piece _ 23 _ (congrArg (accC vc) e23),
   heads_piece _ 22 _ (congrArg (accC vc) e22),
   heads_piece _ 21 _ (congrArg (accC vc) e21),
   heads_piece _ 20 _ (congrArg (accC vc) e20),
   heads_piece _ 19 _ (congrArg (accC vc) e19),
   heads_piece _ 18 _ (congrArg (accC vc) e18),
   heads_piece _ 17 _ (congrArg (accC vc) e17),
   heads_piece _ 16 _ (congrArg (accC vc) e16),
   heads_piece _ 15 _ (congrArg (accC vc) e15),
   heads_piece _ 14 _ (congrArg (accC vc) e14),
   heads_piece _ 13 _ (congrArg (accC vc) e13),
   heads_piece _ 12 _ (congrArg (accC vc) e12),
   heads_piece _ 11 _ (congrArg (accC vc) e11),
   heads_piece _ 10 _ (congrArg (accC vc) e10),
   heads_piece _ 9 _ (congrArg (accC vc) e9),
   heads_piece _ 8 _ (congrArg (accC vc) e8),
   heads_piece _ 7 _ (congrArg (accC vc) e7),
   heads_piece _ 6 _ (congrArg (accC vc) e6),
   heads_piece _ 5 _ (congrArg (accC vc) e5),
   heads_piece _ 4 _ (congrArg (accC vc) e4),
   heads_piece _ 3 _ (congrArg (accC vc) e3),
   heads_piece _ 2 _ (congrArg (accC vc) e2),
   heads_piece _ 1 _ (congrArg (accC vc) e1),
   heads_piece _ 0 _ (congrArg (accC vc) e0), trivial⟩

/-- The stores of the output block, after the loop. -/
theorem out_pieces (Z : Fin 32 → Vec F S1x80x512 .f32) (f : Fin 32 → Vec F S1x80x512 .f32) (e : ∀ h, Z h = f h) :
    View.PiecesOf (blocks fun h => fin (f h))
      ([⟨blk 31, fin (Z 31)⟩,
        ⟨blk 30, fin (Z 30)⟩,
        ⟨blk 29, fin (Z 29)⟩,
        ⟨blk 28, fin (Z 28)⟩,
        ⟨blk 27, fin (Z 27)⟩,
        ⟨blk 26, fin (Z 26)⟩,
        ⟨blk 25, fin (Z 25)⟩,
        ⟨blk 24, fin (Z 24)⟩,
        ⟨blk 23, fin (Z 23)⟩,
        ⟨blk 22, fin (Z 22)⟩,
        ⟨blk 21, fin (Z 21)⟩,
        ⟨blk 20, fin (Z 20)⟩,
        ⟨blk 19, fin (Z 19)⟩,
        ⟨blk 18, fin (Z 18)⟩,
        ⟨blk 17, fin (Z 17)⟩,
        ⟨blk 16, fin (Z 16)⟩,
        ⟨blk 15, fin (Z 15)⟩,
        ⟨blk 14, fin (Z 14)⟩,
        ⟨blk 13, fin (Z 13)⟩,
        ⟨blk 12, fin (Z 12)⟩,
        ⟨blk 11, fin (Z 11)⟩,
        ⟨blk 10, fin (Z 10)⟩,
        ⟨blk 9, fin (Z 9)⟩,
        ⟨blk 8, fin (Z 8)⟩,
        ⟨blk 7, fin (Z 7)⟩,
        ⟨blk 6, fin (Z 6)⟩,
        ⟨blk 5, fin (Z 5)⟩,
        ⟨blk 4, fin (Z 4)⟩,
        ⟨blk 3, fin (Z 3)⟩,
        ⟨blk 2, fin (Z 2)⟩,
        ⟨blk 1, fin (Z 1)⟩,
        ⟨blk 0, fin (Z 0)⟩] : List (View.Piece (Elt F) S8x256x512 .bf16)) :=
  ⟨fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e],
   fun x => by rw [blocks_emb, e], trivial⟩

end Cert.Attention

end
-- ==== Proof.Tile.lean ====
/- What a run of the kernel's body stores: the output block as a function of the five input blocks. -/
module

public import proofs.«01_k».proof.Proof.Loop

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.Sem

variable {F : FTy → Type} [FloatOps F]

/-- The values of a block of the accumulator, as read and reshaped by the kernel. -/
abbrev qX (x0 : Vec F S8x256x512 .bf16) (h : Fin 32) : FVec F S64x512 .bf16 := k0_pay77 fun x => x0 ((blk h).emb x)
abbrev kcX (x1 : Vec F S1x256x64 .bf16) : FVec F S256x64 .bf16 := k0_pay109 x1
abbrev vcX (x3 : Vec F S1x80x256 .bf16) : FVec F S80x256 .bf16 := k0_pay110 x3
abbrev keyX (x2 : Vec F S1x8192x64 .bf16) (k : Fin k0_t1_loop.trips) : FVec F S512x64 .bf16 :=
  k0_pay2 fun x => x2 ((Rect.unit (s := S1x8192x64) (k0_off1 k) S1x512x64.size (k0_off1_inb k)).emb x)
abbrev valX (x4 : Vec F S16x80x512 .bf16) (k : Fin k0_t1_loop.trips) : FVec F S80x512 .bf16 :=
  k0_pay3 fun x => x4 ((Rect.unit (s := S16x80x512) (k0_off2 k) S1x80x512.size (k0_off2_inb k)).emb x)

/-- The block of the output that the kernel's body stores, from its five input blocks. -/
def tileOut (x0 : Vec F S8x256x512 .bf16) (x1 : Vec F S1x256x64 .bf16) (x2 : Vec F S1x8192x64 .bf16) (x3 : Vec F S1x80x256 .bf16)
    (x4 : Vec F S16x80x512 .bf16) : Vec F S8x256x512 .bf16 :=
  blocks fun h => fin (accAt (qX x0) (keyX x2) (valX x4) (fun h => accC (vcX x3) (probC (qX x0 h) (kcX x1))) k0_t1_loop.trips h)

section Blocks

variable (c : Dev nD) (i : grid0.Coords)
  (arg3 : Memref sig .tc .vmem S8x256x512 .bf16) (harg3 : arg3.IsWhole)
  (arg4 : Memref sig .tc .vmem S1x256x64 .bf16) (harg4 : arg4.IsWhole)
  (arg5 : Memref sig .tc .vmem S1x8192x64 .bf16) (harg5 : arg5.IsWhole)
  (arg6 : Memref sig .tc .vmem S1x80x256 .bf16) (harg6 : arg6.IsWhole)
  (arg7 : Memref sig .tc .vmem S16x80x512 .bf16) (harg7 : arg7.IsWhole)
  (arg8 : Memref sig .tc .vmem S8x256x512 .bf16) (harg8 : arg8.IsWhole)
  (arg9 : Memref sig .tc .vmem S32x80x512 .f32) (harg9 : arg9.IsWhole)
  (arg10 : Memref sig .tc .vmem S512x512 .bf16) (harg10 : arg10.IsWhole)
  (arg11 : Memref sig .tc .vmem S512x512 .bf16) (harg11 : arg11.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)

/-- The same, read from a buffer's contents. -/
abbrev qR (h : Fin 32) : FVec F S64x512 .bf16 := k0_pay77 (View.readAt (Elt F) arg3.view (blk h).toLoadRect X3)
abbrev kcR : FVec F S256x64 .bf16 :=
  k0_pay109 (View.readAt (Elt F) arg4.view (Rect.unit (s := S1x256x64) ![0, 0, 0] S1x256x64.size inb_S1x256x64_S1x256x64_0_0_0).toLoadRect X4)
abbrev vcR : FVec F S80x256 .bf16 :=
  k0_pay110 (View.readAt (Elt F) arg6.view (Rect.unit (s := S1x80x256) ![0, 0, 0] S1x80x256.size inb_S1x80x256_S1x80x256_0_0_0).toLoadRect X6)

abbrev baseR : Fin 32 → Vec F S1x80x512 .f32 := fun h => accC (vcR arg6 X6) (probC (qR arg3 X3 h) (kcR arg4 X4))

variable (v400 : FVec F S80x512 .f32) (v401 : Vec F S1x80x512 .f32) (L0 : List (View.Piece (Elt F) S32x80x512 .f32))
  (L10 : List (View.Piece (Elt F) S512x512 .bf16)) (G11 : BufTy.Contents (Elt F) arg11.view.ty)
  (h9 : arg9.view.read (Elt F) (arg9.view.writes (Elt F) arg9.view.junk L0) = heads (baseR arg3 arg4 arg6 X3 X4 X6))
  (h10 : ∀ h0, arg10.view.read (Elt F) (arg10.view.writes (Elt F) arg10.view.junk L10) = probL (qR arg3 X3 0) (keyC arg5 X5 ⟨0, h0⟩))

include h9 h10 in
theorem tile_pieces : View.PiecesOf (blocks fun h => fin (accAt (qR arg3 X3) (keyC arg5 X5) (valC arg7 X7) (baseR arg3 arg4 arg6 X3 X4 X6) k0_t1_loop.trips h))
    ([⟨blk 31, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 31).toLoadRect)⟩,
      ⟨blk 30, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 30).toLoadRect)⟩,
      ⟨blk 29, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 29).toLoadRect)⟩,
      ⟨blk 28, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 28).toLoadRect)⟩,
      ⟨blk 27, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 27).toLoadRect)⟩,
      ⟨blk 26, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 26).toLoadRect)⟩,
      ⟨blk 25, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 25).toLoadRect)⟩,
      ⟨blk 24, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 24).toLoadRect)⟩,
      ⟨blk 23, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 23).toLoadRect)⟩,
      ⟨blk 22, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 22).toLoadRect)⟩,
      ⟨blk 21, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 21).toLoadRect)⟩,
      ⟨blk 20, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 20).toLoadRect)⟩,
      ⟨blk 19, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 19).toLoadRect)⟩,
      ⟨blk 18, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 18).toLoadRect)⟩,
      ⟨blk 17, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 17).toLoadRect)⟩,
      ⟨blk 16, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 16).toLoadRect)⟩,
      ⟨blk 15, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 15).toLoadRect)⟩,
      ⟨blk 14, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 14).toLoadRect)⟩,
      ⟨blk 13, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 13).toLoadRect)⟩,
      ⟨blk 12, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 12).toLoadRect)⟩,
      ⟨blk 11, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 11).toLoadRect)⟩,
      ⟨blk 10, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 10).toLoadRect)⟩,
      ⟨blk 9, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 9).toLoadRect)⟩,
      ⟨blk 8, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 8).toLoadRect)⟩,
      ⟨blk 7, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 7).toLoadRect)⟩,
      ⟨blk 6, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 6).toLoadRect)⟩,
      ⟨blk 5, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 5).toLoadRect)⟩,
      ⟨blk 4, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 4).toLoadRect)⟩,
      ⟨blk 3, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 3).toLoadRect)⟩,
      ⟨blk 2, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 2).toLoadRect)⟩,
      ⟨blk 1, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 1).toLoadRect)⟩,
      ⟨blk 0, fin (arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab 0).toLoadRect)⟩] : List (View.Piece (Elt F) S8x256x512 .bf16)) :=
  out_pieces (fun h => arg9.view.readCov ((pb_k0_t1 (F := F) Variants.none c none i arg3 harg3 arg4 harg4 arg5 harg5 arg6 harg6 arg7 harg7 arg8 harg8 arg9 harg9 arg10 harg10 arg11 harg11 (qR arg3 X3 0) (qR arg3 X3 1) (qR arg3 X3 2) (qR arg3 X3 3) (qR arg3 X3 4) (qR arg3 X3 5) (qR arg3 X3 6) (qR arg3 X3 7) (qR arg3 X3 8) (qR arg3 X3 9) (qR arg3 X3 10) (qR arg3 X3 11) (qR arg3 X3 12) (qR arg3 X3 13) (qR arg3 X3 14) (qR arg3 X3 15) (qR arg3 X3 16) (qR arg3 X3 17) (qR arg3 X3 18) (qR arg3 X3 19) (qR arg3 X3 20) (qR arg3 X3 21) (qR arg3 X3 22) (qR arg3 X3 23) (qR arg3 X3 24) (qR arg3 X3 25) (qR arg3 X3 26) (qR arg3 X3 27) (qR arg3 X3 28) (qR arg3 X3 29) (qR arg3 X3 30) (qR arg3 X3 31) (kcR arg4 X4) (vcR arg6 X6) v400 v401 X5 X7 (arg9.view.writes (Elt F) arg9.view.junk L0) (arg10.view.writes (Elt F) arg10.view.junk L10) G11 (Scf.trips k0_t1_loop.lb k0_t1_loop.ub k0_t1_loop.st)).1 ++ L0) (slab h).toLoadRect) _
    (readCov_slab arg9 _ L0 _ (loop_read c i arg3 harg3 arg4 harg4 arg5 harg5 arg6 harg6 arg7 harg7 arg8 harg8 arg9 harg9 arg10 harg10 arg11 harg11 (qR arg3 X3) (kcR arg4 X4) (vcR arg6 X6) v400 v401 X5 X7 _ _ G11 _ h9 h10))

end Blocks

/-- A buffer whose stores are blocks of `G` and cover it reads as `G`. -/
theorem read_of_pieces {s : Shape} {e : EltTy} (a : Memref sig .tc .vmem s e) (f : BufTy.Contents (Elt F) a.view.ty) (G : s.Idx → Elt F e)
    (L : List (View.Piece (Elt F) s e)) (h : View.PiecesOf G L) (hc : ∀ y, ∃ p ∈ L, y ∈ p.1.set) :
    a.view.read (Elt F) (a.view.writes (Elt F) f L) = G := by
  rw [View.read_writes_eq_canon _ _ _ hc]
  funext y
  have := View.canon_append_of_piecesOf G [] L h y (hc y)
  rwa [List.append_nil] at this

/-- The block read from the buffers is the block of their contents. -/
theorem tile_unread (arg3 : Memref sig .tc .vmem S8x256x512 .bf16) (harg3 : arg3.IsWhole) (arg4 : Memref sig .tc .vmem S1x256x64 .bf16) (harg4 : arg4.IsWhole)
    (arg5 : Memref sig .tc .vmem S1x8192x64 .bf16) (harg5 : arg5.IsWhole) (arg6 : Memref sig .tc .vmem S1x80x256 .bf16) (harg6 : arg6.IsWhole)
    (arg7 : Memref sig .tc .vmem S16x80x512 .bf16) (harg7 : arg7.IsWhole)
    (x0 : Vec F S8x256x512 .bf16) (x1 : Vec F S1x256x64 .bf16) (x2 : Vec F S1x8192x64 .bf16) (x3 : Vec F S1x80x256 .bf16) (x4 : Vec F S16x80x512 .bf16) :
    (blocks fun h => fin (accAt (qR arg3 (harg3.unread x0)) (keyC arg5 (harg5.unread x2)) (valC arg7 (harg7.unread x4))
      (baseR arg3 arg4 arg6 (harg3.unread x0) (harg4.unread x1) (harg6.unread x3)) k0_t1_loop.trips h)) = tileOut x0 x1 x2 x3 x4 := by
  have eq : qR arg3 (harg3.unread x0) = qX x0 := by
    funext h
    exact congrArg k0_pay77 (funext fun x => congrFun (harg3.read_unread x0) _)
  have ek : keyC arg5 (harg5.unread x2) = keyX x2 := by
    funext k
    exact congrArg k0_pay2 (funext fun x => congrFun (harg5.read_unread x2) _)
  have ev : valC arg7 (harg7.unread x4) = valX x4 := by
    funext k
    exact congrArg k0_pay3 (funext fun x => congrFun (harg7.read_unread x4) _)
  have ekc : kcR arg4 (harg4.unread x1) = kcX x1 :=
    congrArg k0_pay109 ((View.readAt_full _ _ _).trans (harg4.read_unread x1))
  have evc : vcR arg6 (harg6.unread x3) = vcX x3 :=
    congrArg k0_pay110 ((View.readAt_full _ _ _).trans (harg6.read_unread x3))
  unfold tileOut baseR
  rw [eq, ek, ev, ekc, evc]

end Cert.Attention

end
-- ==== Proof.Run.lean ====
/- A run of the kernel's body: the five input buffers as they were, the output's at the block `tileOut`, the scratch
   buffers at something. -/
module

public import proofs.«01_k».proof.Proof.Tile

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_body (c : Dev nD) (i : grid0.Coords)
  (arg3 : Memref sig .tc .vmem S8x256x512 .bf16) (harg3 : arg3.IsWhole)
  (arg4 : Memref sig .tc .vmem S1x256x64 .bf16) (harg4 : arg4.IsWhole)
  (arg5 : Memref sig .tc .vmem S1x8192x64 .bf16) (harg5 : arg5.IsWhole)
  (arg6 : Memref sig .tc .vmem S1x80x256 .bf16) (harg6 : arg6.IsWhole)
  (arg7 : Memref sig .tc .vmem S16x80x512 .bf16) (harg7 : arg7.IsWhole)
  (arg8 : Memref sig .tc .vmem S8x256x512 .bf16) (harg8 : arg8.IsWhole)
  (arg9 : Memref sig .tc .vmem S32x80x512 .f32) (harg9 : arg9.IsWhole)
  (arg10 : Memref sig .tc .vmem S512x512 .bf16) (harg10 : arg10.IsWhole)
  (arg11 : Memref sig .tc .vmem S512x512 .bf16) (harg11 : arg11.IsWhole)
    (x0 : Vec F S8x256x512 .bf16) (x1 : Vec F S1x256x64 .bf16) (x2 : Vec F S1x8192x64 .bf16) (x3 : Vec F S1x80x256 .bf16) (x4 : Vec F S16x80x512 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tileOut x0 x1 x2 x3 x4) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attn_lat i arg3 harg3 arg4 harg4 arg5 harg5 arg6 harg6 arg7 harg7 arg8 harg8 arg9 harg9 arg10 harg10 arg11 harg11) K := by
  simp only [cc0_attn_lat_eq_skeleton]; unfold cc0_attn_lat_skel
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine Eq.trans ?_ (tile_unread arg3 harg3 arg4 harg4 arg5 harg5 arg6 harg6 arg7 harg7 x0 x1 x2 x3 x4)
    refine read_of_pieces arg8 _ _ _ (tile_pieces c i arg3 harg3 arg4 harg4 arg5 harg5 arg6 harg6 arg7 harg7 arg8 harg8 arg9 harg9 arg10 harg10 arg11 harg11 (harg3.unread x0) (harg4.unread x1) (harg5.unread x2) (harg6.unread x3) (harg7.unread x4) _ _ _ _ _ ?_ ?_) ?_
    · refine read_of_pieces arg9 _ _ _ (base_pieces _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_) ?_
      iterate 32
        · exact View.readCov_cons_toLoadRect _ _ _ _
      · exact View.cover_of_tiledL _ S1x80x512.size (by sl_kernel_rfl)
    · intro h0
      exact View.read_writes_full _ _ _ _ _
    · exact View.cover_of_tiledL _ S1x64x512.size (by sl_kernel_rfl)
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Attention

end
-- ==== Proof.Launch.lean ====
/- The launch: the pipeline's data with the output block `tileOut`, the body's obligation at every grid point, the run of
   the whole program, and its frame. -/
module

public import proofs.«01_k».proof.Proof.Run
public import Idealize.ShloMosaic.Lib.Claim

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block that grid point `t` stores, from the blocks it finds in its input windows. -/
def tileAt (c : Dev nD) (t : Fin cfg0.N) : Vec F S8x256x512 .bf16 :=
  tileOut (X0_0 m c t) (iblk m c 1 t) (X0_2 m c t) (iblk m c 3 t) (X0_4 m c t)

/-- The pipeline's data: each input window keeps its block, the output window gets `tileAt`. -/
def pdats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => X0_4 m c t
    | ⟨5, _⟩ => tileAt m c t
  Φ _ := Pipeline.ΦA spec0 c
  q w := Pipeline.shareOf spec0 w
  owed _ := 0

theorem pA (c : Dev nD) (w : Fin cfg0.W) : (pdats m 0 c).A w = V m c (Pipeline.arrRef spec0 w) := by
  dsimp only [pdats]

theorem left0 (c : Dev nD) (t : Fin cfg0.N) : (pdats m 0 c).after 0 t = X0_0 m c t := by dsimp only [pdats]
theorem left1 (c : Dev nD) (t : Fin cfg0.N) : (pdats m 0 c).after 1 t = iblk m c 1 t := by dsimp only [pdats]
theorem left2 (c : Dev nD) (t : Fin cfg0.N) : (pdats m 0 c).after 2 t = X0_2 m c t := by dsimp only [pdats]
theorem left3 (c : Dev nD) (t : Fin cfg0.N) : (pdats m 0 c).after 3 t = iblk m c 3 t := by dsimp only [pdats]
theorem left4 (c : Dev nD) (t : Fin cfg0.N) : (pdats m 0 c).after 4 t = X0_4 m c t := by dsimp only [pdats]
theorem left5 (c : Dev nD) (t : Fin cfg0.N) : (pdats m 0 c).after 5 t = tileAt m c t := by dsimp only [pdats]

theorem found0 (c : Dev nD) (t : Fin cfg0.N) (d) : (pdats m 0 c).before 0 t d = X0_0 m c t :=
  before0_0_of m (pdats m 0 c) (pA m c 0) (left0 m c) t d
theorem found1 (c : Dev nD) (t : Fin cfg0.N) (d) : (pdats m 0 c).before 1 t d = iblk m c 1 t :=
  before0_1_of m (pdats m 0 c) (pA m c 1) (left1 m c) t d
theorem found2 (c : Dev nD) (t : Fin cfg0.N) (d) : (pdats m 0 c).before 2 t d = X0_2 m c t :=
  before0_2_of m (pdats m 0 c) (pA m c 2) (left2 m c) t d
theorem found3 (c : Dev nD) (t : Fin cfg0.N) (d) : (pdats m 0 c).before 3 t d = iblk m c 3 t :=
  before0_3_of m (pdats m 0 c) (pA m c 3) (left3 m c) t d
theorem found4 (c : Dev nD) (t : Fin cfg0.N) (d) : (pdats m 0 c).before 4 t d = X0_4 m c t :=
  before0_4_of m (pdats m 0 c) (pA m c 4) (left4 m c) t d

/-- What the body is called with at point `t`. -/
def callPre (c : Dev nD) (t : Fin cfg0.N) : sProp 𝕄 :=
  iprop((pdats m 0 c).Φ t.castSucc ∗ (pdats m 0 c).owesAt () t.castSucc
    ∗ (∃ d, owns (c : Thread nD τ) (ms0_0 t) fullShare ((pdats m 0 c).before 0 t d))
    ∗ (∃ d, owns (c : Thread nD τ) (ms0_1 t) fullShare ((pdats m 0 c).before 1 t d))
    ∗ (∃ d, owns (c : Thread nD τ) (ms0_2 t) fullShare ((pdats m 0 c).before 2 t d))
    ∗ (∃ d, owns (c : Thread nD τ) (ms0_3 t) fullShare ((pdats m 0 c).before 3 t d))
    ∗ (∃ d, owns (c : Thread nD τ) (ms0_4 t) fullShare ((pdats m 0 c).before 4 t d))
    ∗ (∃ d, owns (c : Thread nD τ) (ms0_5 t) fullShare ((pdats m 0 c).before 5 t d)))

/-- What it returns. -/
def callPost (c : Dev nD) (t : Fin cfg0.N) : sProp 𝕄 :=
  iprop((pdats m 0 c).Φ t.succ ∗ (pdats m 0 c).owesAt () t.succ
    ∗ owns (c : Thread nD τ) (ms0_0 t) fullShare ((pdats m 0 c).after 0 t)
    ∗ owns (c : Thread nD τ) (ms0_1 t) fullShare ((pdats m 0 c).after 1 t)
    ∗ owns (c : Thread nD τ) (ms0_2 t) fullShare ((pdats m 0 c).after 2 t)
    ∗ owns (c : Thread nD τ) (ms0_3 t) fullShare ((pdats m 0 c).after 3 t)
    ∗ owns (c : Thread nD τ) (ms0_4 t) fullShare ((pdats m 0 c).after 4 t)
    ∗ owns (c : Thread nD τ) (ms0_5 t) fullShare ((pdats m 0 c).after 5 t))

set_option maxHeartbeats 800000 in
theorem call_sound (c : Dev nD) (t : Fin cfg0.N) :
    callPre m c t ⊢ wp frame (wpE (defs₀ (F := F)) Variants.none c none) Set.univ (bodyAt0 t) (fun _ => callPost m c t) := by
  unfold callPre callPost bodyAt0
  simp only [found0, found1, found2, found3, found4]
  rw [show (pdats m 0 c).Φ t.succ = (pdats m 0 c).Φ t.castSucc from rfl,
    show (pdats m 0 c).owesAt () t.succ = (pdats m 0 c).owesAt () t.castSucc from rfl,
    left0, left1, left2, left3, left4, left5,
    show (pdats m 0 c).Φ t.castSucc = Pipeline.ΦA spec0 c from rfl, PhiA0_eq]
  unfold tileAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ _ _ (X0_0 m c t) (iblk m c 1 t) (X0_2 m c t) (iblk m c 3 t) (X0_4 m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) : defs₀ (F := F) .tc cfg0.body (cfg0.bodyArgs t (cfg0.slots t)) = bodyAt0 t := by
  unfold defs₀
  rw [Defs.onTc_tc]

theorem call_obligation (c : Dev nD) : BodyObligation (pdats (F := F) m 0 c) (defs₀ (F := F)) Variants.none () Set.univ := fun t => by
  rw [bigSep_W0, bigSep_W0, body_row]
  exact triple_restated (call_sound m c t) rfl .rfl fun _ => .rfl

set_option backward.isDefEq.respectTransparency.types false in
set_option maxHeartbeats 800000 in
/-- The run: every array of the pipeline ends at what the data says, every other one at what the host code after the call
    leaves, and every semaphore at zero. -/
theorem run_all : θ_run defs (onTc (τ := τ) (main (F := F))) (s₀ m ρ) (fun r => (Pipeline.FramePost cfgs (pdats m) 0 (Pipeline.afterTail₀ cfgs (pdats m) 0 (V0 m) [hostOps1])) r ∧ r.2.sem = fun _ => 0) :=
  Pipeline.θ_run_frame_around_shared (Q' := _) cfgs (pdats m) (0 : Fin 1) launch₀0 defs₀ Variants.none m ρ main
    (hbody := fun c => (call_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := pA m) (hΦ := fun _ _ => rfl)

/-- The frame: the arguments end unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (pdats m) (pA m) ((θ_run defs _ _).mono (fun _ h => h.1) (run_all m ρ)))
    ((θ_run defs _ _).mono (fun _ h => h.2) (run_all m ρ))

end Cert.Attention

end
-- ==== Proof.Frames.lean ====
/- The kernel's frame claims: its run (Launch.lean) is stated over any floats, so it serves the program as printed and
   the idealized one, whose text is the same. -/
module

public import proofs.«01_k».proof.Proof.Launch
public import proofs.«01_k».proof.Proof.Gen.Kernel
public import proofs.«01_k».proof.Proof.Gen.Pre_finite_qk
public import proofs.«01_k».proof.Defs

@[expose] public section

set_option maxRecDepth 16384

noncomputable section

namespace Cert.Attention

open Idealize.ShloMosaic Idealize.SL.Sem

/-- The two programs' kernel tables have the same rows, -/
theorem rows_eq : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | 0, (t, s) => rfl
  | ⟨_ + 1, h⟩, _ => exact absurd h (Nat.not_lt.2 (Nat.le_add_left _ _))

/-- so their definitions are the same. -/
theorem defs_eq : Cert.KernelIdeal.defs (F := Bits) = Cert.Kernel.defs (F := Bits) :=
  congrArg (Pipeline.defs (Cert.Kernel.pcfgs (F := Bits))) rows_eq

set_option maxHeartbeats 4000000 in
theorem frame_kernel : Cert.quiescent_Kernel := fun m ρ _ => by
  rw [← defs_eq]
  exact frame_all (F := Bits) m ρ

theorem frame_kernelIdeal : Cert.quiescent_KernelIdeal := fun m ρ _ => frame_all m ρ

theorem frame_kernelIdeal_pre : Cert.quiescent_KernelIdeal_pre_finite_qk := fun m ρ _ => frame_all m ρ

end Cert.Attention

end
-- ==== Proof.TileValue.lean ====
/- The block that a grid point stores, read at an index over the extended reals. -/
module

public import proofs.«01_k».proof.Proof.Tile
public import Idealize.ShloMosaic.Lib.Pointwise

@[expose] public section

set_option maxRecDepth 16384

noncomputable section

namespace Cert.Attention

open Cert.KernelIdeal Cert.KernelIdeal.Gen
open Idealize.ShloMosaic

/-- A head's accumulator after a chunk of 512 keys, at value row `r` and query `l`. -/
theorem accL_apply (v : FVec Ideal S80x512 .bf16) (a : Vec Ideal S1x80x512 .f32) (q : FVec Ideal S64x512 .bf16)
    (k : FVec Ideal S512x64 .bf16) (r : Fin 80) (l : Fin 512) :
    accL v a (probL q k) (ix3 0 r l)
      = a (ix3 0 r l) + ∑ i : Fin 512, v (ix2 r i) * Ideal.exp2 (∑ d : Fin 64, k (ix2 i d) * q (ix2 d l)) := by
  pointwise [accL, probL, k0_pay10, k0_pay9]
  rfl

/-- A head's accumulator after the 256 context keys. -/
theorem accC_apply (v : FVec Ideal S80x256 .bf16) (q : FVec Ideal S64x512 .bf16)
    (k : FVec Ideal S256x64 .bf16) (r : Fin 80) (l : Fin 512) :
    accC v (probC q k) (ix3 0 r l)
      = ∑ i : Fin 256, v (ix2 r i) * Ideal.exp2 (∑ d : Fin 64, k (ix2 i d) * q (ix2 d l)) := by
  pointwise [accC, probC, k0_pay114, k0_pay113]
  rfl

/-- The end of a head: its value rows divided by the row that holds the weights' sum. -/
theorem fin_apply (a : Vec Ideal S1x80x512 .f32) (d : Fin 64) (l : Fin 512) :
    fin a (ix3 0 d l) = Ideal.div (a (ix3 0 ⟨d.val, by omega⟩ l)) (a (ix3 0 64 l)) := by
  pointwise [fin, k0_pay185]

theorem trips_eq : k0_t1_loop.trips = 16 := by decide +kernel

theorem off1_eq : ∀ k : Fin k0_t1_loop.trips, k0_off1 k = ![0, 512 * k.val, 0] := by decide +kernel
theorem off2_eq : ∀ k : Fin k0_t1_loop.trips, k0_off2 k = ![k.val, 0, 0] := by decide +kernel

/-- The contribution of a chunk of keys to a head's accumulator. -/
def chunk (q : FVec Ideal S64x512 .bf16) (k : FVec Ideal S512x64 .bf16) (v : FVec Ideal S80x512 .bf16) (r : Fin 80) (l : Fin 512) :
    EReal := ∑ i : Fin 512, v (ix2 r i) * Ideal.exp2 (∑ d : Fin 64, k (ix2 i d) * q (ix2 d l))

/-- A head's accumulator after `n` chunks. -/
theorem accAt_apply (q : Fin 32 → FVec Ideal S64x512 .bf16) (K : Fin k0_t1_loop.trips → FVec Ideal S512x64 .bf16)
    (V : Fin k0_t1_loop.trips → FVec Ideal S80x512 .bf16) (A : Fin 32 → Vec Ideal S1x80x512 .f32) (h : Fin 32) (r : Fin 80)
    (l : Fin 512) : ∀ n : ℕ, accAt q K V A n h (ix3 0 r l)
      = A h (ix3 0 r l) + ∑ k ∈ Finset.range n, if hk : k < k0_t1_loop.trips then chunk (q h) (K ⟨k, hk⟩) (V ⟨k, hk⟩) r l else 0 := by
  intro n
  induction n with
  | zero => simp [accAt]
  | succ n ih =>
    rw [Finset.sum_range_succ, ← add_assoc, ← ih, accAt]
    dsimp only
    by_cases hn : n < k0_t1_loop.trips
    · rw [dif_pos hn, dif_pos hn, accL_apply]
      rfl
    · rw [dif_neg hn, dif_neg hn, add_zero]

theorem accAt_all (q : Fin 32 → FVec Ideal S64x512 .bf16) (K : Fin k0_t1_loop.trips → FVec Ideal S512x64 .bf16)
    (V : Fin k0_t1_loop.trips → FVec Ideal S80x512 .bf16) (A : Fin 32 → Vec Ideal S1x80x512 .f32) (h : Fin 32) (r : Fin 80)
    (l : Fin 512) : accAt q K V A k0_t1_loop.trips h (ix3 0 r l)
      = A h (ix3 0 r l) + ∑ k : Fin k0_t1_loop.trips, chunk (q h) (K k) (V k) r l := by
  rw [accAt_apply, Finset.sum_range]
  refine congrArg (A h (ix3 0 r l) + ·) (Finset.sum_congr rfl fun k _ => dif_pos k.isLt)

/-- The value row `r` of the keys' sum for a head whose query (a column of the query block) is `q`. -/
def rowSum (q : Fin 64 → EReal) (x1 : Vec Ideal S1x256x64 .bf16) (x2 : Vec Ideal S1x8192x64 .bf16) (x3 : Vec Ideal S1x80x256 .bf16)
    (x4 : Vec Ideal S16x80x512 .bf16) (r : Fin 80) : EReal :=
  (∑ i : Fin 256, x3 (ix3 0 r i) * Ideal.exp2 (∑ d : Fin 64, x1 (ix3 0 i d) * q d))
    + ∑ k : Fin 16, ∑ i : Fin 512, x4 (ix3 k r i) * Ideal.exp2 (∑ d : Fin 64, x2 (ix3 0 ⟨k.val * 512 + i.val, by omega⟩ d) * q d)

theorem keyX_apply (x2 : Vec Ideal S1x8192x64 .bf16) (k : Fin k0_t1_loop.trips) (i : Fin 512) (d : Fin 64) (hk : k.val * 512 + i.val < 8192) :
    keyX x2 k (ix2 i d) = x2 (ix3 0 ⟨k.val * 512 + i.val, hk⟩ d) := by
  have e : keyX x2 k (ix2 i d) = x2 ((Rect.unit (s := S1x8192x64) (k0_off1 k) S1x512x64.size (k0_off1_inb k)).emb (ix3 0 i d)) := by
    pointwise [keyX, k0_pay2]
  rw [e]
  congr 1
  funext a
  have e1 := off1_eq k
  fin_cases a <;> apply Fin.ext
  · show k0_off1 k 0 + 1 * 0 = 0
    rw [e1]; rfl
  · show k0_off1 k 1 + 1 * i.val = k.val * 512 + i.val
    rw [e1]; show 512 * k.val + _ = _; omega
  · show k0_off1 k 2 + 1 * d.val = d.val
    rw [e1]; show 0 + _ = _; omega

theorem valX_apply (x4 : Vec Ideal S16x80x512 .bf16) (k : Fin k0_t1_loop.trips) (r : Fin 80) (i : Fin 512) (hk : k.val < 16) :
    valX x4 k (ix2 r i) = x4 (ix3 ⟨k.val, hk⟩ r i) := by
  have e : valX x4 k (ix2 r i) = x4 ((Rect.unit (s := S16x80x512) (k0_off2 k) S1x80x512.size (k0_off2_inb k)).emb (ix3 0 r i)) := by
    pointwise [valX, k0_pay3]
  rw [e]
  congr 1
  funext a
  have e1 := off2_eq k
  fin_cases a <;> apply Fin.ext
  · show k0_off2 k 0 + 1 * 0 = k.val
    rw [e1]; rfl
  · show k0_off2 k 1 + 1 * r.val = r.val
    rw [e1]; show 0 + _ = _; omega
  · show k0_off2 k 2 + 1 * i.val = i.val
    rw [e1]; show 0 + _ = _; omega

/-- The stored block at head `h`'s value column `d` and query `l`: the quotient of two row sums. -/
theorem tile_apply (x0 : Vec Ideal S8x256x512 .bf16) (x1 : Vec Ideal S1x256x64 .bf16) (x2 : Vec Ideal S1x8192x64 .bf16)
    (x3 : Vec Ideal S1x80x256 .bf16) (x4 : Vec Ideal S16x80x512 .bf16) (h : Fin 32) (d : Fin 64) (l : Fin 512) :
    tileOut x0 x1 x2 x3 x4 ((blk h).emb (ix3 0 d l))
      = Ideal.div (rowSum (fun d => x0 ((blk h).emb (ix3 0 d l))) x1 x2 x3 x4 ⟨d.val, by omega⟩)
          (rowSum (fun d => x0 ((blk h).emb (ix3 0 d l))) x1 x2 x3 x4 64) := by
  have key : ∀ r : Fin 80, accAt (qX x0) (keyX x2) (valX x4) (fun h => accC (vcX x3) (probC (qX x0 h) (kcX x1))) k0_t1_loop.trips h (ix3 0 r l)
      = rowSum (fun d => x0 ((blk h).emb (ix3 0 d l))) x1 x2 x3 x4 r := by
    intro r
    rw [accAt_all, accC_apply, rowSum]
    have eq : ∀ d : Fin 64, qX x0 h (ix2 d l) = x0 ((blk h).emb (ix3 0 d l)) := fun d => by
      pointwise [qX, k0_pay77]
    congr 1
    · refine Finset.sum_congr rfl fun i _ => ?_
      have ev : vcX x3 (ix2 r i) = x3 (ix3 0 r i) := by pointwise [vcX, k0_pay110]
      have ek : ∀ d : Fin 64, kcX x1 (ix2 i d) = x1 (ix3 0 i d) := fun d => by pointwise [kcX, k0_pay109]
      rw [ev]
      congr 2
      exact Finset.sum_congr rfl fun d _ => by rw [eq, ek]
    · refine Fintype.sum_equiv (finCongr trips_eq) _ _ fun k => ?_
      have hk : k.val < 16 := trips_eq ▸ k.isLt
      refine Finset.sum_congr rfl fun i _ => ?_
      rw [valX_apply x4 k r i hk]
      show _ * Ideal.exp2 _ = _ * Ideal.exp2 _
      congr 2
      exact Finset.sum_congr rfl fun d _ => by
        rw [eq, keyX_apply x2 k i d (by omega)]
        rfl
  rw [tileOut, blocks_emb, fin_apply, key, key]

end Cert.Attention

end
-- ==== Proof.HostIn.lean ====
/- The arrays that the call finds, read at an index: the queries' tiles, the keys, and the values with the row of ones. -/
module

public import proofs.«01_k».proof.Proof.Gen.KernelIdeal.Frame.Runs
public import Idealize.ShloMosaic.Lib.StableHlo.ReadAt
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe

variable (m : (ℓ : Loc nD τ sig) → Buf (Elt Ideal) ℓ) (c : Dev nD)

/-- The arguments as arrays. -/
abbrev qA : FVec Ideal S4x8x8192x64 .f32 := m ((c : Thread nD τ).loc main_arg0)
abbrev kcA : FVec Ideal S4x2x256x64 .f32 := m ((c : Thread nD τ).loc main_arg1)
abbrev klA : FVec Ideal S4x2x8192x64 .f32 := m ((c : Thread nD τ).loc main_arg2)
abbrev vcA : FVec Ideal S4x2x256x64 .f32 := m ((c : Thread nD τ).loc main_arg3)
abbrev vlA : FVec Ideal S4x2x8192x64 .f32 := m ((c : Thread nD τ).loc main_arg4)

/-- The latent keys' reshape, read at an index. -/
theorem cast_lat (x : FVec Ideal S2x4x8192x64 .bf16) (g : Fin 2) (i : Fin 32768) (d : Fin 64) :
    shapeCast S2x32768x64 x shapeCasts_S2x4x8192x64_S2x32768x64 (ix3 g i d) = x (ix4 g ⟨i.val / 8192, by omega⟩ ⟨i.val % 8192, by omega⟩ d) := by
  pointwise

/-- The context keys' reshape, read at an index. -/
theorem cast_ctx (x : FVec Ideal S2x4x256x64 .bf16) (g : Fin 2) (i : Fin 1024) (d : Fin 64) :
    shapeCast S2x1024x64 x shapeCasts_S2x4x256x64_S2x1024x64 (ix3 g i d) = x (ix4 g ⟨i.val / 256, by omega⟩ ⟨i.val % 256, by omega⟩ d) := by
  pointwise

/-- The latent and the context keys joined, read at an index. -/
theorem cat_keys (a : FVec Ideal S2x32768x64 .bf16) (b : FVec Ideal S2x1024x64 .bf16) (g : Fin 2) (i : Fin 33792) (d : Fin 64) :
    concatenate S2x33792x64 1 [⟨S2x32768x64, a⟩, ⟨S2x1024x64, b⟩] concatenates_S2x32768x64_S2x1024x64_S2x33792x64_d1 (ix3 g i d) = if h : i.val < 32768 then a (ix3 g ⟨i.val, h⟩ d) else b (ix3 g ⟨i.val - 32768, by omega⟩ d) := by
  pointwise

theorem swap_ctx (x : FVec Ideal S4x2x256x64 .f32) (g : Fin 2) (b : Fin 4) (i : Fin 256) (d : Fin 64) :
    transpose S2x4x256x64 [1, 0, 2, 3] (truncf .bf16 x bitsLt_bf16_f32) transposes_S4x2x256x64_S2x4x256x64_1_0_2_3 (ix4 g b i d)
      = x (ix4 b g i d) := by
  pointwise

theorem swap_lat (x : FVec Ideal S4x2x8192x64 .f32) (g : Fin 2) (b : Fin 4) (i : Fin 8192) (d : Fin 64) :
    transpose S2x4x8192x64 [1, 0, 2, 3] (truncf .bf16 x bitsLt_bf16_f32) transposes_S4x2x8192x64_S2x4x8192x64_1_0_2_3 (ix4 g b i d)
      = x (ix4 b g i d) := by
  pointwise

set_option maxHeartbeats 4000000 in
/-- The queries' tiles: head column `r` of tile `t`, scaled. -/
theorem q_tile (t : Fin 66) (ht : t.val < 64) (r l : Fin 512) :
    V m c main_v9 (ix3 t r l) = qA m c (ix4 ⟨t.val / 16, by omega⟩ ⟨r.val / 64, by omega⟩ ⟨t.val % 16 * 512 + l.val, by omega⟩ ⟨r.val % 64, by omega⟩)
      * Ideal.div (Ideal.ofBits .f32 0x3E000000#32) (Ideal.log (Ideal.ofBits .f32 0x40000000#32)) := by
  unfold V
  after_reads_at
  rw [dif_pos ht]

set_option maxHeartbeats 4000000 in
/-- The keys' array at the latent keys. -/
theorem k_lat (g : Fin 2) (i : Fin 33792) (d : Fin 64) (hi : i.val < 32768) :
    V m c main_v16 (ix3 g i d) = klA m c (ix4 ⟨i.val / 8192, by omega⟩ g ⟨i.val % 8192, by omega⟩ d) := by
  unfold V
  after_reads_simp
  all_goals try simp -implicitDefEqProofs only [StableHlo.TRef.toBuf, StableHlo.TRef.ofBuf, cast_cast, cast_eq]
  all_goals clean_types
  refine (cat_keys _ _ g i d).trans ?_
  rw [dif_pos hi]
  refine (cast_lat _ g ⟨i.val, hi⟩ d).trans ?_
  exact swap_lat _ g _ _ d

set_option maxHeartbeats 4000000 in
/-- The keys' array at the context keys. -/
theorem k_ctx (g : Fin 2) (i : Fin 33792) (d : Fin 64) (hi : 32768 ≤ i.val) :
    V m c main_v16 (ix3 g i d) = kcA m c (ix4 ⟨(i.val - 32768) / 256, by omega⟩ g ⟨(i.val - 32768) % 256, by omega⟩ d) := by
  unfold V
  after_reads_simp
  all_goals try simp -implicitDefEqProofs only [StableHlo.TRef.toBuf, StableHlo.TRef.ofBuf, cast_cast, cast_eq]
  all_goals clean_types
  refine (cat_keys _ _ g i d).trans ?_
  rw [dif_neg (by omega)]
  refine (cast_ctx _ g ⟨i.val - 32768, by omega⟩ d).trans ?_
  exact swap_ctx _ g _ _ d

set_option maxHeartbeats 4000000 in
/-- The values' array at a latent tile's value rows. -/
theorem v_lat (t : Fin 66) (r : Fin 160) (i : Fin 512) (ht : t.val < 64) (hr : r.val % 80 < 64) :
    V m c main_v29 (ix3 t r i)
      = vlA m c (ix4 ⟨t.val / 16, by omega⟩ ⟨r.val / 80, by omega⟩ ⟨t.val % 16 * 512 + i.val, by omega⟩ ⟨r.val % 80, hr⟩) := by
  unfold V
  after_reads_at
  after_reads_at
  rw [dif_pos hr, dif_pos ht]

set_option maxHeartbeats 4000000 in
/-- The values' array at a context tile's value rows. -/
theorem v_ctx (t : Fin 66) (r : Fin 160) (i : Fin 512) (ht : 64 ≤ t.val) (hr : r.val % 80 < 64) :
    V m c main_v29 (ix3 t r i)
      = vcA m c (ix4 ⟨(t.val - 64) * 2 + i.val / 256, by omega⟩ ⟨r.val / 80, by omega⟩ ⟨i.val % 256, by omega⟩ ⟨r.val % 80, hr⟩) := by
  unfold V
  after_reads_at
  after_reads_at
  rw [dif_pos hr, dif_neg (by omega)]

set_option maxHeartbeats 4000000 in
/-- The values' array at the row of ones. -/
theorem v_one (t : Fin 66) (r : Fin 160) (i : Fin 512) (hr : r.val % 80 = 64) :
    V m c main_v29 (ix3 t r i) = (1 : EReal) := by
  unfold V
  after_reads_at
  after_reads_at
  rw [dif_neg (by omega), dif_pos (by omega)]

end Cert.Attention

end
-- ==== Proof.HostOut.lean ====
/- The kernel's result after the host code that follows the call, read at an index. -/
module

public import proofs.«01_k».proof.Proof.Launch
public import Idealize.ShloMosaic.Lib.StableHlo.ReadAt
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe

variable (m : (ℓ : Loc nD τ sig) → Buf (Elt Ideal) ℓ) (c : Dev nD)

/-- The result buffer's contents at the end. -/
abbrev outA : FVec Ideal S4x8192x512 .f32 := Pipeline.afterTail₀ cfgs (pdats m) 0 (V0 m) [hostOps1] c main_v35

theorem array_found : Pipeline.withArrays (cfgs 0).spec c (V0 m c) (fun w => (pdats m 0 c).arrAt w (cfgs 0).N) (Proc.devRef .tc main_v30)
    = (pdats m 0 c).arrAt 5 cfg0.N :=
  (pdats m 0 c).withArrays_arrAt launch₀0.sharedIn (V0 m c) (pA m c) 5

/-- The result at sequence `b`, query `s` and column `e`, from the call's array. -/
theorem out_apply (b : Fin 4) (s : Fin 8192) (e : Fin 512) :
    outA m c (ix3 b s e) = ((pdats m 0 c).arrAt 5 cfg0.N : Vec Ideal S66x512x512 .bf16)
      (ix3 ⟨b.val * 16 + s.val / 512, by omega⟩ e ⟨s.val % 512, by omega⟩) := by
  rw [← array_found]
  unfold outA Pipeline.afterTail₀
  generalize Pipeline.withArrays (cfgs 0).spec c (V0 m c) (fun w => (pdats m 0 c).arrAt w (cfgs 0).N) = W
  after_reads_at

end Cert.Attention

end
-- ==== Proof.Blocks.lean ====
/- The windows' blocks at a grid point, element by element, and the output array after the run. -/
module

public import proofs.«01_k».proof.Proof.Launch
public import Idealize.ShloMosaic.Lib.Pipeline.Value
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- The grid point of sequence `b`, key head `g` and half `j` of the query tiles. -/
def pt (b : Fin 4) (g : Fin 2) (j : Fin 2) : Fin cfg0.N := ⟨b.val * 4 + g.val * 2 + j.val, by
  show b.val * 4 + g.val * 2 + j.val < grid0.N
  rw [show grid0.N = 16 by decide +kernel]
  omega⟩

theorem at0 : ∀ (b : Fin 4) (g j : Fin 2), win0_0.index (pt b g j) = ![2 * b.val + j.val, g.val, 0] := by decide +kernel
theorem at1 : ∀ (b : Fin 4) (g j : Fin 2), win0_1.index (pt b g j) = ![g.val, 128 + b.val, 0] := by decide +kernel
theorem at2 : ∀ (b : Fin 4) (g j : Fin 2), win0_2.index (pt b g j) = ![g.val, b.val, 0] := by decide +kernel
theorem at3 : ∀ (b : Fin 4) (g j : Fin 2), win0_3.index (pt b g j) = ![64 + b.val / 2, g.val, b.val % 2] := by decide +kernel
theorem at4 : ∀ (b : Fin 4) (g j : Fin 2), win0_4.index (pt b g j) = ![b.val, g.val, 0] := by decide +kernel
theorem at5 : ∀ (b : Fin 4) (g j : Fin 2), win0_5.index (pt b g j) = ![2 * b.val + j.val, g.val, 0] := by decide +kernel

/-- The queries' block. -/
theorem X0_apply (b : Fin 4) (g j : Fin 2) (t : Fin 8) (r : Fin 256) (l : Fin 512) (z : S66x512x512.Idx)
    (h0 : (z 0).val = 8 * (2 * b.val + j.val) + t.val) (h1 : (z 1).val = 256 * g.val + r.val) (h2 : (z 2).val = l.val) :
    X0_0 m c (pt b g j) (ix3 t r l) = V m c main_v9 z := by
  unfold X0_0 Pipeline.Window.fill
  rw [dif_pos (moved0_0 _ _)]
  unfold iblk
  show V m c main_v9 ((win0_0.rect (pt b g j)).emb _) = V m c main_v9 z
  congr 1
  funext a
  apply Fin.ext
  refine (Pipeline.Window.rect_emb_val win0_0 (pt b g j) _ a).trans ?_
  rw [at0]
  match a with
  | ⟨0, _⟩ => show (2 * b.val + j.val) * 8 + t.val = (z 0).val; omega
  | ⟨1, _⟩ => show g.val * 256 + r.val = (z 1).val; omega
  | ⟨2, _⟩ => show 0 * 512 + l.val = (z 2).val; omega

/-- The context keys' block. -/
theorem X1_apply (b : Fin 4) (g j : Fin 2) (i : Fin 256) (d : Fin 64) (z : S2x33792x64.Idx)
    (h0 : (z 0).val = g.val) (h1 : (z 1).val = 32768 + 256 * b.val + i.val) (h2 : (z 2).val = d.val) :
    (iblk m c 1 (pt b g j) : Vec F S1x256x64 .bf16) (ix3 0 i d) = V m c main_v16 z := by
  unfold iblk
  show V m c main_v16 ((win0_1.rect (pt b g j)).emb _) = V m c main_v16 z
  congr 1
  funext a
  apply Fin.ext
  refine (Pipeline.Window.rect_emb_val win0_1 (pt b g j) _ a).trans ?_
  rw [at1]
  match a with
  | ⟨0, _⟩ => show g.val * 1 + 0 = (z 0).val; omega
  | ⟨1, _⟩ => show (128 + b.val) * 256 + i.val = (z 1).val; omega
  | ⟨2, _⟩ => show 0 * 64 + d.val = (z 2).val; omega

/-- The latent keys' block. -/
theorem X2_apply (b : Fin 4) (g j : Fin 2) (i : Fin 8192) (d : Fin 64) (z : S2x33792x64.Idx)
    (h0 : (z 0).val = g.val) (h1 : (z 1).val = 8192 * b.val + i.val) (h2 : (z 2).val = d.val) :
    X0_2 m c (pt b g j) (ix3 0 i d) = V m c main_v16 z := by
  unfold X0_2 Pipeline.Window.fill
  rw [dif_pos (moved0_2 _ _)]
  unfold iblk
  show V m c main_v16 ((win0_2.rect (pt b g j)).emb _) = V m c main_v16 z
  congr 1
  funext a
  apply Fin.ext
  refine (Pipeline.Window.rect_emb_val win0_2 (pt b g j) _ a).trans ?_
  rw [at2]
  match a with
  | ⟨0, _⟩ => show g.val * 1 + 0 = (z 0).val; omega
  | ⟨1, _⟩ => show b.val * 8192 + i.val = (z 1).val; omega
  | ⟨2, _⟩ => show 0 * 64 + d.val = (z 2).val; omega

/-- The context values' block. -/
theorem X3_apply (b : Fin 4) (g j : Fin 2) (r : Fin 80) (i : Fin 256) (z : S66x160x512.Idx)
    (h0 : (z 0).val = 64 + b.val / 2) (h1 : (z 1).val = 80 * g.val + r.val) (h2 : (z 2).val = 256 * (b.val % 2) + i.val) :
    (iblk m c 3 (pt b g j) : Vec F S1x80x256 .bf16) (ix3 0 r i) = V m c main_v29 z := by
  unfold iblk
  show V m c main_v29 ((win0_3.rect (pt b g j)).emb _) = V m c main_v29 z
  congr 1
  funext a
  apply Fin.ext
  refine (Pipeline.Window.rect_emb_val win0_3 (pt b g j) _ a).trans ?_
  rw [at3]
  match a with
  | ⟨0, _⟩ => show (64 + b.val / 2) * 1 + 0 = (z 0).val; omega
  | ⟨1, _⟩ => show g.val * 80 + r.val = (z 1).val; omega
  | ⟨2, _⟩ => show (b.val % 2) * 256 + i.val = (z 2).val; omega

/-- The latent values' block. -/
theorem X4_apply (b : Fin 4) (g j : Fin 2) (k : Fin 16) (r : Fin 80) (i : Fin 512) (z : S66x160x512.Idx)
    (h0 : (z 0).val = 16 * b.val + k.val) (h1 : (z 1).val = 80 * g.val + r.val) (h2 : (z 2).val = i.val) :
    X0_4 m c (pt b g j) (ix3 k r i) = V m c main_v29 z := by
  unfold X0_4 Pipeline.Window.fill
  rw [dif_pos (moved0_4 _ _)]
  unfold iblk
  show V m c main_v29 ((win0_4.rect (pt b g j)).emb _) = V m c main_v29 z
  congr 1
  funext a
  apply Fin.ext
  refine (Pipeline.Window.rect_emb_val win0_4 (pt b g j) _ a).trans ?_
  rw [at4]
  match a with
  | ⟨0, _⟩ => show b.val * 16 + k.val = (z 0).val; omega
  | ⟨1, _⟩ => show g.val * 80 + r.val = (z 1).val; omega
  | ⟨2, _⟩ => show 0 * 512 + i.val = (z 2).val; omega

theorem index_inj : ∀ t t' : Fin cfg0.N, win0_5.index t = win0_5.index t' → t = t' :=
  (by decide +kernel : ∀ t t' : Fin grid0.N, win0_5.index t = win0_5.index t' → t = t')

theorem whole5 : ∀ t : Fin cfg0.N, ∀ a, (cfg0.win 5).xsize (cfg0.grid.coords t) a = (cfg0.win 5).size a := by decide +kernel
theorem flush5 : ∀ t : Fin cfg0.N, (cfg0.win 5).flush t = true :=
  (by decide +kernel : ∀ t : Fin grid0.N, (cfg0.win 5).flush t = true)

/-- The output array after the run, at an element of a point's block. -/
theorem array_apply (b : Fin 4) (g j : Fin 2) (y : S8x256x512.Idx) (z : S66x512x512.Idx)
    (h0 : (z 0).val = 8 * (2 * b.val + j.val) + (y 0).val) (h1 : (z 1).val = 256 * g.val + (y 1).val) (h2 : (z 2).val = (y 2).val) :
    ((pdats m 0 c).arrAt 5 cfg0.N : Vec F S66x512x512 .bf16) z = tileAt m c (pt b g j) y := by
  have hx := whole5 (pt b g j)
  let y' : ((cfg0.win 5).xblock (cfg0.grid.coords (pt b g j))).Idx := fun a => ⟨(y a).val, by
    show (y a).val < (cfg0.win 5).xsize (cfg0.grid.coords (pt b g j)) a
    rw [hx]
    exact (y a).isLt⟩
  have e := (pdats m 0 c).arrAt_emb_eq_flushed 5 (fun t t' _ _ hne => (cfg0.win 5).disjoint_blk fun h => hne (index_inj t t' h))
    (pt b g j) (flush5 _) y'
  have ez : (((cfg0.win 5).blk (pt b g j)).view.emb y' : S66x512x512.Idx) = z := by
    funext a
    apply Fin.ext
    refine (Pipeline.Window.rect_emb_val win0_5 (pt b g j) y' a).trans ?_
    rw [at5]
    match a with
    | ⟨0, _⟩ => show (2 * b.val + j.val) * 8 + (y 0).val = (z 0).val; omega
    | ⟨1, _⟩ => show g.val * 256 + (y 1).val = (z 1).val; omega
    | ⟨2, _⟩ => show 0 * 512 + (y 2).val = (z 2).val; omega
  rw [← ez]
  refine e.trans ?_
  show (pdats m 0 c).after 5 (pt b g j) _ = _
  rw [left5]
  rfl

end Cert.Attention

end
-- ==== Proof.Softmax.lean ====
/- The mathematics of the softmax: a weighted sum of values with weights `e ^ x` divided by the weights' sum, the form
   the kernel computes, is the sum of the values times the normalised weights, the form the reference computes. -/
module

public import Idealize.ShloMosaic.Lib.Pointwise

@[expose] public section

noncomputable section

namespace Cert.Attention

open Idealize.ShloMosaic

/-- A sum of reals, read in the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor goes into a sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h, ← ih]
    exact EReal.right_distrib_of_nonneg_of_ne_top (by exact_mod_cast hr) (EReal.coe_ne_top r) _ _

/-- The values weighted by `e ^ x`, divided by the sum of the weights. -/
def attend {n : ℕ} (x : Fin n → ℝ) (v : Fin n → EReal) : EReal :=
  Ideal.div (∑ j, v j * ((Real.exp (x j) : ℝ) : EReal)) ((∑ j, Real.exp (x j) : ℝ) : EReal)

theorem sum_exp_pos {n : ℕ} (hn : 0 < n) (x : Fin n → ℝ) : 0 < ∑ j, Real.exp (x j) :=
  Finset.sum_pos (fun _ _ => Real.exp_pos _) ⟨⟨0, hn⟩, Finset.mem_univ _⟩

/-- The normalised form: any real `mx` may be subtracted from the exponents first. -/
theorem attend_eq {n : ℕ} (hn : 0 < n) (x : Fin n → ℝ) (mx : ℝ) (v : Fin n → EReal) :
    ∑ j, Ideal.div ((Real.exp (x j - mx) : ℝ) : EReal) ((∑ j, Real.exp (x j - mx) : ℝ) : EReal) * v j = attend x v := by
  have hL := sum_exp_pos hn x
  have hL' := sum_exp_pos hn fun j => x j - mx
  have e : ∑ j, Real.exp (x j - mx) = (∑ j, Real.exp (x j)) * Real.exp (-mx) := by
    rw [Finset.sum_mul]
    exact Finset.sum_congr rfl fun j _ => by rw [sub_eq_add_neg, Real.exp_add]
  rw [attend, Ideal.div_coe hL.ne', sum_mul_real _ _ _ (one_div_nonneg.2 hL.le)]
  refine Finset.sum_congr rfl fun j _ => ?_
  rw [Ideal.div_coe hL'.ne', mul_assoc (v j), ← EReal.coe_mul, ← EReal.coe_mul, mul_comm (v j)]
  congr 2
  rw [e, sub_eq_add_neg, Real.exp_add]
  have := Real.exp_pos (-mx)
  field_simp

/-- `2 ^ (s / log 2) = e ^ s`, with the factor `c / log 2` inside the sum that makes `s`. -/
theorem exp2_score {n : ℕ} (k q : Fin n → ℝ) (c : ℝ) :
    Ideal.exp2 (∑ d, (k d : EReal) * ((q d : EReal) * Ideal.div (c : EReal) (Ideal.log ((2 : ℝ) : EReal))))
      = ((Real.exp ((∑ d, q d * k d) * c) : ℝ) : EReal) := by
  have h2 : Real.log 2 ≠ 0 := (Real.log_pos (by norm_num)).ne'
  rw [Ideal.log_coe, if_neg (by norm_num), Ideal.div_coe h2]
  have e : ∀ d, (k d : EReal) * ((q d : EReal) * ((c : EReal) * ((1 / Real.log 2 : ℝ) : EReal)))
      = ((k d * (q d * (c * (1 / Real.log 2))) : ℝ) : EReal) := fun d => by
    rw [← EReal.coe_mul, ← EReal.coe_mul, ← EReal.coe_mul]
  rw [Finset.sum_congr rfl fun d _ => e d, ← coe_sum_real, Ideal.exp2_coe]
  congr 1
  show (2 : ℝ) ^ (∑ d, k d * (q d * (c * (1 / Real.log 2)))) = _
  rw [Real.rpow_def_of_pos (by norm_num)]
  congr 1
  rw [Finset.mul_sum, Finset.sum_mul]
  refine Finset.sum_congr rfl fun d _ => ?_
  field_simp

/-- The kernel's quotient, its weights' sum taken by a product with ones. -/
theorem attend_of_kernel {n : ℕ} (hn : 0 < n) (x : Fin n → ℝ) (v : Fin n → EReal) :
    Ideal.div (∑ j, v j * ((Real.exp (x j) : ℝ) : EReal)) (∑ j : Fin n, 1 * ((Real.exp (x j) : ℝ) : EReal)) = attend x v := by
  rw [attend, coe_sum_real]
  congr 1
  exact Finset.sum_congr rfl fun j _ => one_mul _

/-- A score of the reference: the product of the query and the key, times the scale, of real entries. -/
theorem score_real {n : ℕ} (k q : Fin n → ℝ) (c : ℝ) :
    (∑ d, (q d : EReal) * (k d : EReal)) * (c : EReal) = (((∑ d, q d * k d) * c : ℝ) : EReal) := by
  rw [EReal.coe_mul, coe_sum_real]
  congr 1

/-- The maximum of finitely many reals from `⊥` is a real. -/
theorem fold_max_real {n : ℕ} (hn : 0 < n) (x : Fin n → ℝ) :
    ∃ r : ℝ, max ⊥ (Finset.univ.fold max (⊥ : EReal) fun j => (x j : EReal)) = (r : EReal) := by
  have key : ∀ s : Finset (Fin n), s.fold max (⊥ : EReal) (fun j => (x j : EReal)) = ⊥ ∧ s = ∅
      ∨ ∃ r : ℝ, s.fold max (⊥ : EReal) (fun j => (x j : EReal)) = (r : EReal) := by
    intro s
    classical
    induction s using Finset.induction_on with
    | empty => exact .inl ⟨Finset.fold_empty, rfl⟩
    | insert a s h ih =>
      right
      rw [Finset.fold_insert h]
      rcases ih with ⟨e, -⟩ | ⟨r, e⟩
      · exact ⟨x a, by rw [e]; simp⟩
      · exact ⟨max (x a) r, by rw [e]; exact (EReal.coe_strictMono.monotone.map_max).symm⟩
  rcases key Finset.univ with ⟨-, e⟩ | ⟨r, e⟩
  · exact absurd (Finset.mem_univ (⟨0, hn⟩ : Fin n)) (by rw [e]; simp)
  · exact ⟨r, by rw [e]; simp⟩

/-- The reference's softmax over real scores, whatever the maximum it subtracts. -/
theorem attend_of_reference {n : ℕ} (hn : 0 < n) (x : Fin n → ℝ) (v : Fin n → EReal) (M : EReal)
    (hM : ∃ r : ℝ, M = (r : EReal)) :
    ∑ j, Ideal.div (Ideal.exp ((x j : EReal) - M)) (∑ j, Ideal.exp ((x j : EReal) - M)) * v j = attend x v := by
  obtain ⟨r, rfl⟩ := hM
  rw [← attend_eq hn x r v, coe_sum_real]
  rfl

end Cert.Attention

end
-- ==== Proof.RefValue.lean ====
/- The reference's result, read at an index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.Attention.Ref

open Cert.ReferenceIdeal Cert.ReferenceIdeal.Gen
open Idealize.ShloMosaic Idealize.ShloMosaic.TcCoe

/-- The context and the latent entries joined, as keys or as values. -/
def joined (a : FVec Ideal S4x2x256x64 .f32) (b : FVec Ideal S4x2x8192x64 .f32) : FVec Ideal S4x2x8448x64 .f32 :=
  concatenate S4x2x8448x64 2 [⟨S4x2x256x64, a⟩, ⟨S4x2x8192x64, b⟩] concatenates_S4x2x256x64_S4x2x8192x64_S4x2x8448x64_d2

/-- The scores: the products of queries and keys, scaled. -/
def scores (q : FVec Ideal S4x8x8192x64 .f32) (k : FVec Ideal S4x2x8448x64 .f32) : FVec Ideal S4x2x4x8192x8448 .f32 :=
  mulf (Host.dotGeneral dot_S4x2x4x8192x64_S4x2x8448x64_S4x2x4x8192x8448_4_3_23_2_01_01 none (shapeCast _ q shapeCasts_S4x8x8192x64_S4x2x4x8192x64) k)
    (broadcastInDim S4x2x4x8192x8448 ![] bcast_S_S4x2x4x8192x8448 (constant S_ .f32 0x3E000000#32))

/-- The exponentials of the scores less their maximum. -/
def weights (s : FVec Ideal S4x2x4x8192x8448 .f32) : FVec Ideal S4x2x4x8192x8448 .f32 :=
  Host.exp (subf s (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (maximumf (broadcastInDim S4x2x4x8192 ![] bcast_S_S4x2x4x8192 (constant S_ .f32 0xFF800000#32))
        (Host.reduce FloatOps.maximumf s (constant S_ .f32 0xFF800000#32) reducesTo_S4x2x4x8192x8448_S4x2x4x8192_d4 h_S_)))))

/-- The normalised weights times the values, head by head. -/
def mixed (w : FVec Ideal S4x2x4x8192x8448 .f32) (v : FVec Ideal S4x2x8448x64 .f32) : FVec Ideal S4x2x4x8192x64 .f32 :=
  Host.dotGeneral dot_S4x2x4x8192x8448_S4x2x8448x64_S4x2x4x8192x64_4_2_23_3_01_01 none
    (Host.divf w (broadcastInDim S4x2x4x8192x8448 ![0, 1, 2, 3, 4] bcast_S4x2x4x8192x1_S4x2x4x8192x8448_0_1_2_3_4
      (broadcastInDim S4x2x4x8192x1 ![0, 1, 2, 3] bcast_S4x2x4x8192_S4x2x4x8192x1_0_1_2_3
        (Host.reduceAdd w (constant S_ .f32 0x00000000#32) reducesTo_S4x2x4x8192x8448_S4x2x4x8192_d4 h_S_)))) v

/-- The heads put side by side. -/
def together (o : FVec Ideal S4x2x4x8192x64 .f32) : FVec Ideal S4x8192x512 .f32 :=
  shapeCast _ (transpose S4x8192x8x64 [0, 2, 1, 3] (shapeCast _ o shapeCasts_S4x2x4x8192x64_S4x8x8192x64)
    transposes_S4x8x8192x64_S4x8192x8x64_0_2_1_3) shapeCasts_S4x8192x8x64_S4x8192x512

theorem joined_apply (a : FVec Ideal S4x2x256x64 .f32) (b : FVec Ideal S4x2x8192x64 .f32) (n : Fin 4) (g : Fin 2) (j : Fin 8448) (d : Fin 64) :
    joined a b (ix4 n g j d) = if h : j.val < 256 then a (ix4 n g ⟨j.val, h⟩ d) else b (ix4 n g ⟨j.val - 256, by omega⟩ d) := by
  pointwise [joined]

theorem scores_apply (q : FVec Ideal S4x8x8192x64 .f32) (k : FVec Ideal S4x2x8448x64 .f32) (n : Fin 4) (g : Fin 2) (r : Fin 4) (s : Fin 8192)
    (j : Fin 8448) : scores q k (ix5 n g r s j)
      = (∑ d : Fin 64, q (ix4 n ⟨g.val * 4 + r.val, by omega⟩ s d) * k (ix4 n g j d)) * Ideal.ofBits .f32 0x3E000000#32 := by
  pointwise [scores]

/-- The maximum that the reference subtracts. -/
def top (x : FVec Ideal S4x2x4x8192x8448 .f32) (n : Fin 4) (g : Fin 2) (r : Fin 4) (s : Fin 8192) : EReal :=
  max (Ideal.ofBits .f32 0xFF800000#32) (Finset.univ.fold max (Ideal.ofBits .f32 0xFF800000#32) fun j : Fin 8448 => x (ix5 n g r s j))

/-- A maximum over the last of five axes, at an index. -/
theorem rowMax {n0 n1 n2 n3 n4 : ℕ} {t u : Shape} (x : FVec Ideal ⟨5, ![n0, n1, n2, n3, n4]⟩ .f32) (z : FVec Ideal u .f32)
    (h : (⟨5, ![n0, n1, n2, n3, n4]⟩ : Shape).ReducesTo [4] t) (hu : 0 < u.numel) (j : t.Idx) :
    Host.reduce FloatOps.maximumf x z h hu j
      = (Finset.univ : Finset (Fin n4)).fold max (z (Shape.Idx.first hu)) fun k =>
          x (ix5 ⟨(j ⟨0, h.lt_r5_a4_0⟩).val, Shape.coordLt (j ⟨0, h.lt_r5_a4_0⟩) h.size_r5_a4_0⟩
            ⟨(j ⟨1, h.lt_r5_a4_1⟩).val, Shape.coordLt (j ⟨1, h.lt_r5_a4_1⟩) h.size_r5_a4_1⟩
            ⟨(j ⟨2, h.lt_r5_a4_2⟩).val, Shape.coordLt (j ⟨2, h.lt_r5_a4_2⟩) h.size_r5_a4_2⟩
            ⟨(j ⟨3, h.lt_r5_a4_3⟩).val, Shape.coordLt (j ⟨3, h.lt_r5_a4_3⟩) h.size_r5_a4_3⟩ k) := by
  rw [Host.reduce_eq_fold, Shape.ReducesTo.fold_fiber_r5_a4]
  rfl

/-- The exponentials of scores less a maximum given row by row. -/
theorem less_apply (x : FVec Ideal S4x2x4x8192x8448 .f32) (M : FVec Ideal S4x2x4x8192 .f32) (n : Fin 4) (g : Fin 2) (r : Fin 4)
    (s : Fin 8192) (j : Fin 8448) :
    Host.exp (subf x (broadcastInDim S4x2x4x8192x8448 ![0, 1, 2, 3, 4] bcast_S4x2x4x8192x1_S4x2x4x8192x8448_0_1_2_3_4
      (broadcastInDim S4x2x4x8192x1 ![0, 1, 2, 3] bcast_S4x2x4x8192_S4x2x4x8192x1_0_1_2_3
        (maximumf (broadcastInDim S4x2x4x8192 ![] bcast_S_S4x2x4x8192 (constant S_ .f32 0xFF800000#32)) M)))) (ix5 n g r s j)
      = Ideal.exp (x (ix5 n g r s j) - max (Ideal.ofBits .f32 0xFF800000#32) (M (ix4 n g r s))) := by
  pointwise

theorem weights_apply (x : FVec Ideal S4x2x4x8192x8448 .f32) (n : Fin 4) (g : Fin 2) (r : Fin 4) (s : Fin 8192) (j : Fin 8448) :
    weights x (ix5 n g r s j) = Ideal.exp (x (ix5 n g r s j) - top x n g r s) := by
  refine (less_apply x _ n g r s j).trans ?_
  exact congrArg (fun e => Ideal.exp (x (ix5 n g r s j) - max (Ideal.ofBits .f32 0xFF800000#32) e))
    (rowMax x (constant S_ .f32 0xFF800000#32) reducesTo_S4x2x4x8192x8448_S4x2x4x8192_d4 h_S_ (ix4 n g r s))

theorem mixed_apply (w : FVec Ideal S4x2x4x8192x8448 .f32) (v : FVec Ideal S4x2x8448x64 .f32) (n : Fin 4) (g : Fin 2) (r : Fin 4) (s : Fin 8192)
    (d : Fin 64) : mixed w v (ix5 n g r s d)
      = ∑ j : Fin 8448, Ideal.div (w (ix5 n g r s j)) (∑ j : Fin 8448, w (ix5 n g r s j)) * v (ix4 n g j d) := by
  pointwise [mixed]

theorem together_apply (o : FVec Ideal S4x2x4x8192x64 .f32) (n : Fin 4) (s : Fin 8192) (e : Fin 512) :
    together o (ix3 n s e) = o (ix5 n ⟨e.val / 256, by omega⟩ ⟨e.val / 64 % 4, by omega⟩ s ⟨e.val % 64, by omega⟩) := by
  have e4 : e.val / 64 / 4 = e.val / 256 := by omega
  pointwise [together]
  simp only [e4]

/-- The reference's result from its five arguments. -/
def out (q : FVec Ideal S4x8x8192x64 .f32) (kc : FVec Ideal S4x2x256x64 .f32) (kl : FVec Ideal S4x2x8192x64 .f32)
    (vc : FVec Ideal S4x2x256x64 .f32) (vl : FVec Ideal S4x2x8192x64 .f32) : FVec Ideal S4x8192x512 .f32 :=
  together (mixed (weights (scores q (joined kc kl))) (joined vc vl))

end Cert.Attention.Ref

end
-- ==== Proof.Consts.lean ====
/- The float constants of the two programs, as the extended reals they are. -/
module

public import Idealize.ShloMosaic.PureOps.Ideal

@[expose] public section

noncomputable section

namespace Cert.Attention

open Idealize.ShloMosaic

/-- The scale of the scores. -/
theorem scale_val : Ideal.ofBits .f32 0x3E000000#32 = ((1 / 8 : ℝ) : EReal) := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

theorem bot_val : Ideal.ofBits .f32 0xFF800000#32 = (⊥ : EReal) := by
  simp [Ideal.ofBits, Ideal.ieee, -EReal.coe_mul]

theorem top_val : Ideal.ofBits .f32 0x7F800000#32 = (⊤ : EReal) := by
  simp [Ideal.ofBits, Ideal.ieee, -EReal.coe_mul]

end Cert.Attention

end
-- ==== Proof.KernelOut.lean ====
/- The kernel's result at an index, as the attention of real scores. -/
module

public import proofs.«01_k».proof.Proof.TileValue
public import proofs.«01_k».proof.Proof.HostIn
public import proofs.«01_k».proof.Proof.HostOut
public import proofs.«01_k».proof.Proof.Blocks
public import proofs.«01_k».proof.Proof.RefValue
public import proofs.«01_k».proof.Proof.Consts

@[expose] public section

set_option maxRecDepth 16384

noncomputable section

namespace Cert.Attention

open Cert.KernelIdeal Cert.KernelIdeal.Gen
open Idealize.ShloMosaic Idealize.ShloMosaic.TcCoe

variable (m : (ℓ : Loc nD τ sig) → Buf (Elt Ideal) ℓ) (c : Dev nD)

/-- The keys of all entries, context entries first, and their values. -/
abbrev keys : FVec Ideal Cert.ReferenceIdeal.S4x2x8448x64 .f32 := Ref.joined (kcA m c) (klA m c)
abbrev vals : FVec Ideal Cert.ReferenceIdeal.S4x2x8448x64 .f32 := Ref.joined (vcA m c) (vlA m c)

theorem at_ix4 {n0 n1 n2 n3 : ℕ} {α : Type} (x : (⟨4, ![n0, n1, n2, n3]⟩ : Shape).Idx → α) {a a' : Fin n0} {b b' : Fin n1} {d d' : Fin n2} {e e' : Fin n3}
    (ha : a = a') (hb : b = b') (hd : d = d') (he : e = e') : x (ix4 a b d e) = x (ix4 a' b' d' e') := by
  subst ha hb hd he
  rfl

theorem joined_first (a : FVec Ideal S4x2x256x64 .f32) (b : FVec Ideal S4x2x8192x64 .f32) (n : Fin 4) (g : Fin 2) (i : Fin 256) (d : Fin 64)
    (j : Fin 8448) (hj : j.val = i.val) : Ref.joined a b (ix4 n g j d) = a (ix4 n g i d) := by
  rw [Ref.joined_apply, dif_pos (by omega)]
  exact at_ix4 a rfl rfl (Fin.ext hj) rfl

theorem joined_last (a : FVec Ideal S4x2x256x64 .f32) (b : FVec Ideal S4x2x8192x64 .f32) (n : Fin 4) (g : Fin 2) (i : Fin 8192) (d : Fin 64)
    (j : Fin 8448) (hj : j.val = 256 + i.val) : Ref.joined a b (ix4 n g j d) = b (ix4 n g i d) := by
  rw [Ref.joined_apply, dif_neg (by omega)]
  exact at_ix4 b rfl rfl (Fin.ext (by show j.val - 256 = i.val; omega)) rfl

/-- The context keys that a grid point reads. -/
theorem ctx_key (b : Fin 4) (g j : Fin 2) (i : Fin 256) (d : Fin 64) :
    (iblk m c 1 (pt b g j) : Vec Ideal S1x256x64 .bf16) (ix3 0 i d) = kcA m c (ix4 b g i d) := by
  rw [X1_apply m c b g j i d (ix3 g ⟨32768 + 256 * b.val + i.val, by omega⟩ d) rfl rfl rfl, k_ctx m c g _ d (by show 32768 ≤ 32768 + 256 * b.val + i.val; omega)]
  exact at_ix4 (kcA m c) (Fin.ext (by show (32768 + 256 * b.val + i.val - 32768) / 256 = b.val; omega)) rfl (Fin.ext (by show (32768 + 256 * b.val + i.val - 32768) % 256 = i.val; omega)) rfl

/-- The latent keys that a grid point reads. -/
theorem lat_key (b : Fin 4) (g j : Fin 2) (i : Fin 8192) (d : Fin 64) :
    X0_2 m c (pt b g j) (ix3 0 i d) = klA m c (ix4 b g i d) := by
  rw [X2_apply m c b g j i d (ix3 g ⟨8192 * b.val + i.val, by omega⟩ d) rfl rfl rfl, k_lat m c g _ d (by show 8192 * b.val + i.val < 32768; omega)]
  exact at_ix4 (klA m c) (Fin.ext (by show (8192 * b.val + i.val) / 8192 = b.val; omega)) rfl (Fin.ext (by show (8192 * b.val + i.val) % 8192 = i.val; omega)) rfl

/-- The context values that a grid point reads. -/
theorem ctx_val (b : Fin 4) (g j : Fin 2) (d : Fin 64) (i : Fin 256) :
    (iblk m c 3 (pt b g j) : Vec Ideal S1x80x256 .bf16) (ix3 0 ⟨d.val, by omega⟩ i) = vcA m c (ix4 b g i d) := by
  rw [X3_apply m c b g j ⟨d.val, by omega⟩ i (ix3 ⟨64 + b.val / 2, by omega⟩ ⟨80 * g.val + d.val, by omega⟩ ⟨256 * (b.val % 2) + i.val, by omega⟩) rfl rfl rfl,
    v_ctx m c _ _ _ (by show 64 ≤ 64 + b.val / 2; omega) (by show (80 * g.val + d.val) % 80 < 64; omega)]
  exact at_ix4 (vcA m c) (Fin.ext (by show (64 + b.val / 2 - 64) * 2 + (256 * (b.val % 2) + i.val) / 256 = b.val; omega))
    (Fin.ext (by show (80 * g.val + d.val) / 80 = g.val; omega)) (Fin.ext (by show (256 * (b.val % 2) + i.val) % 256 = i.val; omega))
    (Fin.ext (by show (80 * g.val + d.val) % 80 = d.val; omega))

/-- The latent values that a grid point reads. -/
theorem lat_val (b : Fin 4) (g j : Fin 2) (k : Fin 16) (d : Fin 64) (i : Fin 512) :
    X0_4 m c (pt b g j) (ix3 k ⟨d.val, by omega⟩ i) = vlA m c (ix4 b g ⟨k.val * 512 + i.val, by omega⟩ d) := by
  rw [X4_apply m c b g j k ⟨d.val, by omega⟩ i (ix3 ⟨16 * b.val + k.val, by omega⟩ ⟨80 * g.val + d.val, by omega⟩ i) rfl rfl rfl,
    v_lat m c _ _ _ (by show 16 * b.val + k.val < 64; omega) (by show (80 * g.val + d.val) % 80 < 64; omega)]
  exact at_ix4 (vlA m c) (Fin.ext (by show (16 * b.val + k.val) / 16 = b.val; omega)) (Fin.ext (by show (80 * g.val + d.val) / 80 = g.val; omega))
    (Fin.ext (by show (16 * b.val + k.val) % 16 * 512 + i.val = k.val * 512 + i.val; omega)) (Fin.ext (by show (80 * g.val + d.val) % 80 = d.val; omega))

/-- The row of ones, in both. -/
theorem ctx_one (b : Fin 4) (g j : Fin 2) (i : Fin 256) :
    (iblk m c 3 (pt b g j) : Vec Ideal S1x80x256 .bf16) (ix3 0 64 i) = (1 : EReal) := by
  rw [X3_apply m c b g j 64 i (ix3 ⟨64 + b.val / 2, by omega⟩ ⟨80 * g.val + 64, by omega⟩ ⟨256 * (b.val % 2) + i.val, by omega⟩) rfl rfl rfl]
  exact v_one m c _ _ _ (by show (80 * g.val + 64) % 80 = 64; omega)

theorem lat_one (b : Fin 4) (g j : Fin 2) (k : Fin 16) (i : Fin 512) :
    X0_4 m c (pt b g j) (ix3 k 64 i) = (1 : EReal) := by
  rw [X4_apply m c b g j k 64 i (ix3 ⟨16 * b.val + k.val, by omega⟩ ⟨80 * g.val + 64, by omega⟩ i) rfl rfl rfl]
  exact v_one m c _ _ _ (by show (80 * g.val + 64) % 80 = 64; omega)

/-- The elements of the query block that head `h` of query `l` reads. -/
theorem query_val (b : Fin 4) (s : Fin 8192) (e : Fin 512) (h : Fin 32) (hh : h.val = 4 * (s.val / 512 % 8) + e.val / 64 % 4) (d : Fin 64) :
    X0_0 m c (pt b ⟨e.val / 256, by omega⟩ ⟨s.val / 4096, by omega⟩) ((blk h).emb (ix3 0 d ⟨s.val % 512, by omega⟩))
      = qA m c (ix4 b ⟨e.val / 256 * 4 + e.val / 64 % 4, by omega⟩ s d)
        * Ideal.div ((1 / 8 : ℝ) : EReal) (Ideal.log ((2 : ℝ) : EReal)) := by
  have e1 : (blk h).emb (ix3 0 d ⟨s.val % 512, by omega⟩)
      = ix3 (⟨s.val / 512 % 8, by omega⟩ : Fin 8) (⟨64 * (e.val / 64 % 4) + d.val, by omega⟩ : Fin 256) (⟨s.val % 512, by omega⟩ : Fin 512) := by
    funext a
    apply Fin.ext
    match a with
    | ⟨0, _⟩ => show h.val / 4 + 1 * 0 = s.val / 512 % 8; omega
    | ⟨1, _⟩ => show 64 * (h.val % 4) + 1 * d.val = 64 * (e.val / 64 % 4) + d.val; omega
    | ⟨2, _⟩ => show 0 + 1 * (s.val % 512) = s.val % 512; omega
  rw [e1, X0_apply m c b _ _ _ _ ⟨s.val % 512, by omega⟩ (ix3 (n0 := 66) (n1 := 512) (n2 := 512) ⟨b.val * 16 + s.val / 512, by omega⟩ ⟨e.val / 256 * 256 + 64 * (e.val / 64 % 4) + d.val, by omega⟩ ⟨s.val % 512, by omega⟩)
    (by show b.val * 16 + s.val / 512 = 8 * (2 * b.val + s.val / 4096) + s.val / 512 % 8; omega)
    (by show e.val / 256 * 256 + 64 * (e.val / 64 % 4) + d.val = 256 * (e.val / 256) + (64 * (e.val / 64 % 4) + d.val); omega) rfl,
    q_tile m c _ (by show b.val * 16 + s.val / 512 < 64; omega), scale_val, two_val]
  refine congrArg (· * _) (at_ix4 (qA m c) (Fin.ext (by show (b.val * 16 + s.val / 512) / 16 = b.val; omega))
    (Fin.ext (by show (e.val / 256 * 256 + 64 * (e.val / 64 % 4) + d.val) / 64 = e.val / 256 * 4 + e.val / 64 % 4; omega))
    (Fin.ext (by show (b.val * 16 + s.val / 512) % 16 * 512 + s.val % 512 = s.val; omega))
    (Fin.ext (by show (e.val / 256 * 256 + 64 * (e.val / 64 % 4) + d.val) % 64 = d.val; omega)))

/-- A row of the accumulator, as one sum over all entries. -/
theorem rowSum_all (b : Fin 4) (g j : Fin 2) (q : Fin 64 → EReal) (r : Fin 80) (w : Fin 8448 → EReal)
    (h3 : ∀ (i : Fin 256) (k : Fin 8448), k.val = i.val → (iblk m c 3 (pt b g j) : Vec Ideal S1x80x256 .bf16) (ix3 0 r i) = w k)
    (h4 : ∀ (t : Fin 16) (i : Fin 512) (k : Fin 8448), k.val = 256 + (t.val * 512 + i.val) → X0_4 m c (pt b g j) (ix3 t r i) = w k) :
    rowSum q (iblk m c 1 (pt b g j)) (X0_2 m c (pt b g j)) (iblk m c 3 (pt b g j)) (X0_4 m c (pt b g j)) r
      = ∑ k : Fin 8448, w k * Ideal.exp2 (∑ d : Fin 64, keys m c (ix4 b g k d) * q d) := by
  rw [Fin.sum_univ_two_halves 256 8192 (by norm_num), Fin.sum_univ_tiles 16 512 (by norm_num) (N := 8192)]
  unfold rowSum
  refine congrArg₂ (· + ·) ?_ ?_
  · refine Finset.sum_congr rfl fun i _ => ?_
    rw [h3 i ⟨i.val, by omega⟩ rfl]
    refine congrArg (fun z => w _ * Ideal.exp2 z) (Finset.sum_congr rfl fun d _ => ?_)
    exact congrArg (· * q d) ((ctx_key m c b g j i d).trans (joined_first _ _ b g i d ⟨i.val, by omega⟩ rfl).symm)
  · refine Finset.sum_congr rfl fun t _ => Finset.sum_congr rfl fun i _ => ?_
    rw [h4 t i ⟨256 + (t.val * 512 + i.val), by omega⟩ rfl]
    refine congrArg (fun z => w _ * Ideal.exp2 z) (Finset.sum_congr rfl fun d _ => ?_)
    exact congrArg (· * q d) ((lat_key m c b g j ⟨t.val * 512 + i.val, by omega⟩ d).trans
      (joined_last _ _ b g ⟨t.val * 512 + i.val, by omega⟩ d ⟨256 + (t.val * 512 + i.val), by omega⟩ rfl).symm)

/-- The result at an index, from queries and keys that are real there. -/
theorem kernel_out (b : Fin 4) (s : Fin 8192) (e : Fin 512) (qr : Fin 64 → ℝ) (kr : Fin 8448 → Fin 64 → ℝ)
    (hq : ∀ d, qA m c (ix4 b ⟨e.val / 256 * 4 + e.val / 64 % 4, by omega⟩ s d) = (qr d : EReal))
    (hk : ∀ j d, keys m c (ix4 b ⟨e.val / 256, by omega⟩ j d) = (kr j d : EReal)) :
    outA m c (ix3 b s e)
      = attend (fun j => (∑ d, qr d * kr j d) * (1 / 8)) fun j => vals m c (ix4 b ⟨e.val / 256, by omega⟩ j ⟨e.val % 64, by omega⟩) := by
  have hlt : 4 * (s.val / 512 % 8) + e.val / 64 % 4 < 32 := by omega
  rw [out_apply, array_apply m c b ⟨e.val / 256, by omega⟩ ⟨s.val / 4096, by omega⟩
    ((blk ⟨4 * (s.val / 512 % 8) + e.val / 64 % 4, hlt⟩).emb (ix3 0 ⟨e.val % 64, by omega⟩ ⟨s.val % 512, by omega⟩)) _
    (by show b.val * 16 + s.val / 512 = 8 * (2 * b.val + s.val / 4096) + ((4 * (s.val / 512 % 8) + e.val / 64 % 4) / 4 + 1 * 0); omega)
    (by show e.val = 256 * (e.val / 256) + (64 * ((4 * (s.val / 512 % 8) + e.val / 64 % 4) % 4) + 1 * (e.val % 64)); omega)
    (by show s.val % 512 = 0 + 1 * (s.val % 512); omega)]
  unfold tileAt
  rw [tile_apply, ← attend_of_kernel (by norm_num)]
  simp only [query_val m c b s e ⟨4 * (s.val / 512 % 8) + e.val / 64 % 4, hlt⟩ rfl, hq]
  rw [rowSum_all m c b _ _ _ _ (fun j => vals m c (ix4 b ⟨e.val / 256, by omega⟩ j ⟨e.val % 64, by omega⟩)),
    rowSum_all m c b _ _ _ _ (fun _ => 1)]
  · simp only [hk, exp2_score]
  · exact fun i k _ => ctx_one m c b _ _ i
  · exact fun t i k _ => lat_one m c b _ _ t i
  · exact fun i k h => (ctx_val m c b _ _ ⟨e.val % 64, by omega⟩ i).trans (joined_first _ _ _ _ i _ k h).symm
  · exact fun t i k h => (lat_val m c b _ _ t ⟨e.val % 64, by omega⟩ i).trans (joined_last _ _ _ _ ⟨t.val * 512 + i.val, by omega⟩ _ k h).symm

end Cert.Attention

end
-- ==== Proof.RefOut.lean ====
/- The reference's result at an index, as the attention of real scores. -/
module

public import proofs.«01_k».proof.Proof.RefValue
public import proofs.«01_k».proof.Proof.Consts

@[expose] public section

set_option maxRecDepth 16384

noncomputable section

namespace Cert.Attention.Ref

open Cert.ReferenceIdeal Cert.ReferenceIdeal.Gen
open Idealize.ShloMosaic Idealize.ShloMosaic.TcCoe

/-- One head's row, from scores that are real. -/
theorem row_apply (x : FVec Ideal S4x2x4x8192x8448 .f32) (v : FVec Ideal S4x2x8448x64 .f32) (n : Fin 4) (g : Fin 2) (r : Fin 4) (s : Fin 8192)
    (d : Fin 64) (y : Fin 8448 → ℝ) (hy : ∀ j, x (ix5 n g r s j) = (y j : EReal)) :
    mixed (weights x) v (ix5 n g r s d) = attend y fun j => v (ix4 n g j d) := by
  have hM : ∃ t : ℝ, top x n g r s = (t : EReal) := by
    obtain ⟨t, ht⟩ := fold_max_real (by norm_num) y
    refine ⟨t, ?_⟩
    unfold top
    rw [bot_val, ← ht]
    simp only [hy]
  rw [mixed_apply, ← attend_of_reference (by norm_num) y (fun j => v (ix4 n g j d)) _ hM]
  simp only [weights_apply, hy]

theorem out_apply (q : FVec Ideal S4x8x8192x64 .f32) (kc : FVec Ideal S4x2x256x64 .f32) (kl : FVec Ideal S4x2x8192x64 .f32)
    (vc : FVec Ideal S4x2x256x64 .f32) (vl : FVec Ideal S4x2x8192x64 .f32) (n : Fin 4) (s : Fin 8192) (e : Fin 512)
    (qr : Fin 64 → ℝ) (kr : Fin 8448 → Fin 64 → ℝ)
    (hq : ∀ d, q (ix4 n ⟨e.val / 256 * 4 + e.val / 64 % 4, by omega⟩ s d) = (qr d : EReal))
    (hk : ∀ j d, joined kc kl (ix4 n ⟨e.val / 256, by omega⟩ j d) = (kr j d : EReal)) :
    out q kc kl vc vl (ix3 n s e)
      = attend (fun j => (∑ d, qr d * kr j d) * (1 / 8)) fun j => joined vc vl (ix4 n ⟨e.val / 256, by omega⟩ j ⟨e.val % 64, by omega⟩) := by
  unfold out
  rw [together_apply]
  refine row_apply _ _ n _ _ s _ _ fun j => ?_
  rw [scores_apply, scale_val, ← score_real]
  simp only [hq, hk]

end Cert.Attention.Ref

end
-- ==== Proof.Finite.lean ====
/- The precondition read at an element: the queries and both kinds of keys are real numbers. -/
module

public import proofs.«01_k».proof.Proof.Gen.Pre_finite_qk
public import proofs.«01_k».proof.Proof.Consts
public import Idealize.ShloMosaic.Lib.Pointwise
public import Idealize.ShloMosaic.Lib.ReduceAll

@[expose] public section

set_option maxRecDepth 16384

noncomputable section

namespace Cert.Attention

open Cert.Pre_finite_qk Cert.Pre_finite_qk.Gen
open Idealize.ShloMosaic Idealize.ShloMosaic.TcCoe

/-- An extended real of finite absolute value is a real. -/
theorem real_of_abs (x : EReal) (h : max x (-x) < ⊤) : ∃ r : ℝ, x = (r : EReal) := by
  induction x with
  | bot => simp at h
  | coe r => exact ⟨r, rfl⟩
  | top => simp at h

instance : Subsingleton S_.Idx := ⟨fun a b => funext fun k => k.elim0⟩

/-- An array that passes the test of finiteness has real elements. -/
theorem real_of_test {s : Shape} (x : FVec Ideal s .f32) (hb : S_.BroadcastsInDim s (![] : Fin 0 → Fin s.rank)) {axes : List (Fin s.rank)}
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : ∃ r : ℝ, x i = (r : EReal) := by
  have key := Host.reduce_andi_all _ _ h hu j e i
  have key' : Ideal.cmp .olt (max (x i) (-(x i))) (Ideal.ofBits .f32 0x7F800000#32) = 1 := key
  rw [Ideal.cmp_olt_eq_one, top_val] at key'
  exact real_of_abs _ key'

theorem finite_all (q : FVec Ideal S4x8x8192x64 .f32) (kc : FVec Ideal S4x2x256x64 .f32) (kl : FVec Ideal S4x2x8192x64 .f32)
    (vc : FVec Ideal S4x2x256x64 .f32) (vl : FVec Ideal S4x2x8192x64 .f32) (h : Cert.Pre_finite_qk.fn (F := Ideal) q kc kl vc vl = fun _ => 1#1) :
    (∀ i, ∃ r : ℝ, q i = (r : EReal)) ∧ (∀ i, ∃ r : ℝ, kc i = (r : EReal)) ∧ ∀ i, ∃ r : ℝ, kl i = (r : EReal) := by
  have h0 := congrFun h (Shape.Idx.first h_S_)
  dsimp only [Cert.Pre_finite_qk.fn] at h0
  obtain ⟨h1, hl⟩ := IntOp.andi_eq_one.1 h0
  obtain ⟨hq, hc⟩ := IntOp.andi_eq_one.1 h1
  clear h h0 h1
  refine ⟨?_, ?_, ?_⟩
  · clear hl hc
    exact real_of_test q _ _ _ _ hq
  · clear hl hq
    exact real_of_test kc _ _ _ _ hc
  · clear hc hq
    exact real_of_test kl _ _ _ _ hl

end Cert.Attention

end
-- ==== Proof.Algebra.lean ====
/- The value claim: the kernel and the reference compute the same attention. -/
module

public import proofs.«01_k».proof.Proof.KernelOut
public import proofs.«01_k».proof.Proof.RefOut
public import proofs.«01_k».proof.Proof.Finite
public import proofs.«01_k».proof.Proof.Gen.Kernel
public import proofs.«01_k».proof.Defs
public import Idealize.ShloMosaic.Lib.Quiescent

@[expose] public section

set_option maxRecDepth 16384

noncomputable section

namespace Cert.Attention

open Cert.KernelIdeal Cert.KernelIdeal.Gen
open Idealize.ShloMosaic Idealize.ShloMosaic.TcCoe Idealize.SL.Sem

/-- The joined keys are real when both kinds of keys are. -/
theorem joined_real (a : FVec Ideal S4x2x256x64 .f32) (b : FVec Ideal S4x2x8192x64 .f32) (ha : ∀ i, ∃ r : ℝ, a i = (r : EReal))
    (hb : ∀ i, ∃ r : ℝ, b i = (r : EReal)) (n : Fin 4) (g : Fin 2) (j : Fin 8448) (d : Fin 64) :
    ∃ r : ℝ, Ref.joined a b (ix4 n g j d) = (r : EReal) := by
  rw [Ref.joined_apply]
  split
  · exact ha _
  · exact hb _

/-- The two results are equal from queries and keys that are real. -/
theorem result_eq (m : (ℓ : Loc nD τ sig) → Buf (Elt Ideal) ℓ) (c : Dev nD) (hq : ∀ i, ∃ r : ℝ, qA m c i = (r : EReal))
    (hc : ∀ i, ∃ r : ℝ, kcA m c i = (r : EReal)) (hl : ∀ i, ∃ r : ℝ, klA m c i = (r : EReal)) :
    Ref.out (qA m c) (kcA m c) (klA m c) (vcA m c) (vlA m c) = outA m c := by
  funext i
  obtain ⟨b, s, e, rfl⟩ : ∃ (b : Fin 4) (s : Fin 8192) (e : Fin 512), i = ix3 b s e := ⟨i 0, i 1, i 2, eq_ix3 i⟩
  choose qr hqr using fun d : Fin 64 => hq (ix4 b ⟨e.val / 256 * 4 + e.val / 64 % 4, by omega⟩ s d)
  choose kr hkr using fun (j : Fin 8448) (d : Fin 64) => joined_real (kcA m c) (klA m c) hc hl b ⟨e.val / 256, by omega⟩ j d
  exact (Ref.out_apply _ _ _ _ _ b s e qr kr hqr hkr).trans (kernel_out m c b s e qr kr hqr hkr).symm

/-- The reference's run, with its result named. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
      r.2.mem ((c.tc : Thread _ Cert.ReferenceIdeal.τ).loc Cert.ReferenceIdeal.main_v20)
        = Ref.out (m ((c.tc : Thread _ Cert.ReferenceIdeal.τ).loc Cert.ReferenceIdeal.main_arg0)) (m ((c.tc : Thread _ Cert.ReferenceIdeal.τ).loc Cert.ReferenceIdeal.main_arg1))
            (m ((c.tc : Thread _ Cert.ReferenceIdeal.τ).loc Cert.ReferenceIdeal.main_arg2)) (m ((c.tc : Thread _ Cert.ReferenceIdeal.τ).loc Cert.ReferenceIdeal.main_arg3))
            (m ((c.tc : Thread _ Cert.ReferenceIdeal.τ).loc Cert.ReferenceIdeal.main_arg4))
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)
      ∧ r.2.mem ((c.tc : Thread _ Cert.ReferenceIdeal.τ).loc Cert.ReferenceIdeal.main_arg2) = m ((c.tc : Thread _ Cert.ReferenceIdeal.τ).loc Cert.ReferenceIdeal.main_arg2)
      ∧ r.2.mem ((c.tc : Thread _ Cert.ReferenceIdeal.τ).loc Cert.ReferenceIdeal.main_arg3) = m ((c.tc : Thread _ Cert.ReferenceIdeal.τ).loc Cert.ReferenceIdeal.main_arg3)
      ∧ r.2.mem ((c.tc : Thread _ Cert.ReferenceIdeal.τ).loc Cert.ReferenceIdeal.main_arg4) = m ((c.tc : Thread _ Cert.ReferenceIdeal.τ).loc Cert.ReferenceIdeal.main_arg4) := by
  refine (θ_run Cert.ReferenceIdeal.defs _ _).mono (fun _ h c => ⟨(h c).1.trans ?_, (h c).2⟩) (Cert.ReferenceIdeal.Value.run (F := Ideal) m ρ)
  unfold Ref.out Ref.together Ref.mixed Ref.weights Ref.scores Ref.joined
  rfl

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩) (ref_run m ρ)

theorem frame_ri_pre : Cert.quiescent_ReferenceIdeal_pre_finite_qk := fun m ρ _ => frame_ri m ρ trivial

/-- The kernel's run, with its result named. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.2.1 c).2 main_v35 (Pipeline.mem_restRefs_of main_v35 (by decide) (by decide)), h.1.1 c⟩)
    (θ_run_and (frame_all m ρ) (run_all m ρ))

theorem algebraic : Cert.algebraic_KernelIdeal_ReferenceIdeal_pre_finite_qk := by
  intro m ρ m' ρ' hpre hagree
  refine ⟨fun c => outA m c, kernel_run m ρ, ?_⟩
  refine (θ_run Cert.ReferenceIdeal.defs _ _).mono (fun _ h c => ⟨(h c).1.trans ?_, (h c).2⟩) (ref_run m' ρ')
  obtain ⟨e0, e1, e2, e3, e4⟩ := hagree c
  rw [e0, e1, e2, e3, e4]
  obtain ⟨hq, hc, hl⟩ := finite_all _ _ _ _ _ (hpre c)
  exact result_eq m c hq hc hl

end Cert.Attention

end
-- ==== Proof.ExpertsSetup.lean ====
/- The experts' call: the launch around its region — the operations before and after it, the prefetched tables read off
   the memory it starts from, its windows' blocks, and the frame from a run. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

abbrev V0 (c : Dev nD) : Valuation τ sig (Elt F) := StableHlo.after (List.flatten [hostOps0, hostOps0_1, hostOps0_2, hostOps0_3, hostOps0_4, hostOps0_5, hostOps0_6, hostOps0_7]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1].map StableHlo.seq)) :=
  Pipeline.hmainP_around pcfgs 0 defs₀ 𝒱₀ m main [hostOps0, hostOps0_1, hostOps0_2, hostOps0_3, hostOps0_4, hostOps0_5, hostOps0_6, hostOps0_7] [hostOps1, hostOps1_1] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

theorem sfx_sub : ∀ ops ∈ ([hostOps1, hostOps1_1] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The operations before the call write no argument. -/
theorem V_arg (c : Dev nD) (b : Ref sig .tc) (hb : b ∈ [main_arg0, main_arg1, main_arg2, main_arg3, main_arg4]) : V m c b = m ((c : Thread nD τ).loc b) := by
  simp only [List.mem_cons, List.mem_nil_iff, or_false] at hb
  rcases hb with rfl | rfl | rfl | rfl | rfl
  all_goals
    refine StableHlo.after_of_forall_not_mem (b := Proc.devRef .tc _) _ _ (List.forall_iff_forall_mem.mp ?_)
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The prefetched tables, read off the launch memory -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S148 .i32 := Memref.whole main_v39
abbrev htbM0_0 : tbM0_0.IsWhole := Memref.isWhole_whole _
abbrev tbM0_1 : Memref sig .tc .smem S148 .i32 := Memref.whole main_v43
abbrev htbM0_1 : tbM0_1.IsWhole := Memref.isWhole_whole _
abbrev tbM0_2 : Memref sig .tc .smem S1 .i32 := Memref.whole main_v44
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Nor do the operations after it. -/
theorem W_arg (hO : Ok m) (dats : (p : Fin _) → (c : Dev nD) → Dat τ (Elt F) Unit ℕ (UR sig nD τ) ℕ ((Pipeline.pin pcfgs fun _ => adm m hO) p) c) (c : Dev nD)
    (b : Ref sig .tc) (hb : b ∈ [main_arg0, main_arg1, main_arg2, main_arg3, main_arg4]) :
    Pipeline.afterTail pcfgs (fun _ => adm m hO) dats 0 (V0 m) [hostOps1, hostOps1_1] c b = m ((c : Thread nD τ).loc b) := by
  rw [← V_arg m c b hb]
  unfold Pipeline.afterTail
  simp only [List.mem_cons, List.mem_nil_iff, or_false] at hb
  rw [StableHlo.after_of_forall_not_mem (b := Proc.devRef .tc b) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      rcases hb with rfl | rfl | rfl | rfl | rfl
      all_goals
        repeat' apply And.intro
        all_goals exact StableHlo.devRef_ne_of_ne (by decide)))]
  refine Pipeline.withArrays_of_ne _ c (V0 m c) _ b ?_
  rcases hb with rfl | rfl | rfl | rfl | rfl
  · exact (by decide : ∀ w, Pipeline.arrRef spec0 w ≠ main_arg0)
  · exact (by decide : ∀ w, Pipeline.arrRef spec0 w ≠ main_arg1)
  · exact (by decide : ∀ w, Pipeline.arrRef spec0 w ≠ main_arg2)
  · exact (by decide : ∀ w, Pipeline.arrRef spec0 w ≠ main_arg3)
  · exact (by decide : ∀ w, Pipeline.arrRef spec0 w ≠ main_arg4)

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_arg m hO dats c main_arg0 (by simp))),
      (((h c).2 main_arg1 (by decide : main_arg1 ∈ Pipeline.restRefs sig spec0)).trans (W_arg m hO dats c main_arg1 (by simp))),
      (((h c).2 main_arg2 (by decide : main_arg2 ∈ Pipeline.restRefs sig spec0)).trans (W_arg m hO dats c main_arg2 (by simp))),
      (((h c).2 main_arg3 (by decide : main_arg3 ∈ Pipeline.restRefs sig spec0)).trans (W_arg m hO dats c main_arg3 (by simp))),
      (((h c).2 main_arg4 (by decide : main_arg4 ∈ Pipeline.restRefs sig spec0)).trans (W_arg m hO dats c main_arg4 (by simp)))⟩) h

/-! ## The kernel body on any staging memrefs: a subtype the run finds -/

abbrev VO0_4 : View sig .tc .vmem S4096x128 .f32 := (Memref.whole cc0_stg4_0 : Memref sig .tc .vmem S4096x128 .f32).view
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x768 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x768x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev scM0_0 : Memref sig .tc .vmem S1024x768 .bf16 := Memref.whole cc0_scratch0
abbrev scM0_1 : Memref sig .tc .vmem S1024x768 .bf16 := Memref.whole cc0_scratch1
abbrev scM0_2 : Memref sig .tc .vmem S768x1024 .bf16 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Experts

end
-- ==== Proof.ExpertsTile.lean ====
/- The block the experts' kernel stores, as a function of its block of rows and the three weights it holds. -/
module

public import proofs.«01_k».proof.Proof.ExpertsSetup
public import Idealize.ShloMosaic.Lib.Pipeline.ReadBack
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.Sem

variable {F : FTy → Type} [FloatOps F]

/-- Every eighth row of a block, from row `o`. -/
abbrev rowsAt (x0 : Vec F S4096x128 .f32) (o : ℕ) (h : ∀ a, S256x128.size a = 0 ∨ (![o, 0] : Fin 2 → ℕ) a + (![8, 1] : Fin 2 → ℕ) a * (S256x128.size a - 1) < S4096x128.size a) :
    Vec F S256x128 .f32 := fun x => x0 ((⟨![o, 0], S256x128.size, ![8, 1], h⟩ : LoadRect S4096x128).idx x)

/-- The first half of the block's tokens through the expert. -/
def half1 (x0 : Vec F S4096x128 .f32) (y0 y1 : Vec F S1024x768 .bf16) (y2 : Vec F S768x1024 .bf16) : FVec F S256x1024 .f32 :=
  k0_pay6 (rowsAt x0 0 inb_S4096x128_S256x128_0_0_s_8_1) (rowsAt x0 1 inb_S4096x128_S256x128_1_0_s_8_1) (rowsAt x0 2 inb_S4096x128_S256x128_2_0_s_8_1)
    (rowsAt x0 3 inb_S4096x128_S256x128_3_0_s_8_1) (rowsAt x0 4 inb_S4096x128_S256x128_4_0_s_8_1) (rowsAt x0 5 inb_S4096x128_S256x128_5_0_s_8_1)
    (rowsAt x0 6 inb_S4096x128_S256x128_6_0_s_8_1) (rowsAt x0 7 inb_S4096x128_S256x128_7_0_s_8_1) y0 y1 y2

/-- The second half of them. -/
def half2 (x0 : Vec F S4096x128 .f32) (y0 y1 : Vec F S1024x768 .bf16) (y2 : Vec F S768x1024 .bf16) : FVec F S256x1024 .f32 :=
  k0_pay6 (rowsAt x0 2048 inb_S4096x128_S256x128_2048_0_s_8_1) (rowsAt x0 2049 inb_S4096x128_S256x128_2049_0_s_8_1) (rowsAt x0 2050 inb_S4096x128_S256x128_2050_0_s_8_1)
    (rowsAt x0 2051 inb_S4096x128_S256x128_2051_0_s_8_1) (rowsAt x0 2052 inb_S4096x128_S256x128_2052_0_s_8_1) (rowsAt x0 2053 inb_S4096x128_S256x128_2053_0_s_8_1)
    (rowsAt x0 2054 inb_S4096x128_S256x128_2054_0_s_8_1) (rowsAt x0 2055 inb_S4096x128_S256x128_2055_0_s_8_1) y0 y1 y2

/-- Where row `y 0`, lane `y 1` of a half block lies among its tokens and features. -/
def spot (y : S4096x128.Idx) : S256x1024.Idx :=
  ix2 ⟨(y 0).val % 2048 / 8, by omega⟩ ⟨(y 0).val % 8 * 128 + (y 1).val, by have h : (y 1).val < 128 := (y 1).isLt; omega⟩

/-- The block stored. -/
def tileOut (x0 : Vec F S4096x128 .f32) (y0 y1 : Vec F S1024x768 .bf16) (y2 : Vec F S768x1024 .bf16) : Vec F S4096x128 .f32 :=
  fun y => if (y 0).val < 2048 then half1 x0 y0 y1 y2 (spot y) else half2 x0 y0 y1 y2 (spot y)

/-- The buffer's contents after a store of the whole are what was stored. -/
theorem read_full {s : Shape} {e : EltTy} (a : Memref sig .tc .vmem s e) (f : BufTy.Contents (Elt F) a.view.ty) (G : s.Idx → Elt F e)
    (L : List (View.Piece (Elt F) s e)) (h : View.PiecesOf G L) (hc : ∀ y, ∃ p ∈ L, y ∈ p.1.set) :
    a.view.read (Elt F) (a.view.writes (Elt F) f L) = G := by
  rw [View.read_writes_eq_canon _ _ _ hc]
  funext y
  have := View.canon_append_of_piecesOf G [] L h y (hc y)
  rwa [List.append_nil] at this

/-- A slice of a half's columns, at a row and lane of the block. -/
theorem piece_at (A B : FVec F S256x1024 .f32) (o k c : ℕ) (ho : o = 2048 * k + c) (hc : c < 8) (hs : S256x1024.Slices ![0, 128 * c] S256x128)
    (inb : ∀ a, S256x128.size a = 0 ∨ (![o, 0] : Fin 2 → ℕ) a + (![8, 1] : Fin 2 → ℕ) a * (S256x128.size a - 1) < S4096x128.size a)
    (hp : ∀ a, 0 < (![8, 1] : Fin 2 → ℕ) a) (x : S256x128.Idx) (hk : (k = 0 ∧ A = B) ∨ k = 1) :
    extractStridedSlice S256x128 ![0, 128 * c] B hs x
      = (fun y : S4096x128.Idx => if (y 0).val < 2048 then A (spot y) else B (spot y))
          ((⟨⟨![o, 0], S256x128.size, ![8, 1], inb⟩, hp⟩ : Rect S4096x128).emb x) := by
  have h0 : (x 0).val < 256 := (x 0).isLt
  have h1 : (x 1).val < 128 := (x 1).isLt
  have e0 : (((⟨⟨![o, 0], S256x128.size, ![8, 1], inb⟩, hp⟩ : Rect S4096x128).emb x) 0).val = o + 8 * (x 0).val := rfl
  have e1 : (((⟨⟨![o, 0], S256x128.size, ![8, 1], inb⟩, hp⟩ : Rect S4096x128).emb x) 1).val = 0 + 1 * (x 1).val := rfl
  have es : spot ((⟨⟨![o, 0], S256x128.size, ![8, 1], inb⟩, hp⟩ : Rect S4096x128).emb x)
      = (fun a => ⟨(![0, 128 * c] : Fin 2 → ℕ) a + (x (a.cast hs.1.symm)).val, Nat.lt_of_lt_of_le (Nat.add_lt_add_left (x _).isLt _) (hs.2 a)⟩) := by
    funext a
    refine Fin.ext ?_
    match a with
    | ⟨0, _⟩ =>
      show (((⟨⟨![o, 0], S256x128.size, ![8, 1], inb⟩, hp⟩ : Rect S4096x128).emb x) 0).val % 2048 / 8 = 0 + (x 0).val
      rw [e0]; rcases hk with ⟨rfl, -⟩ | rfl <;> omega
    | ⟨1, _⟩ =>
      show (((⟨⟨![o, 0], S256x128.size, ![8, 1], inb⟩, hp⟩ : Rect S4096x128).emb x) 0).val % 8 * 128 + (((⟨⟨![o, 0], S256x128.size, ![8, 1], inb⟩, hp⟩ : Rect S4096x128).emb x) 1).val = 128 * c + (x 1).val
      rw [e0, e1]; rcases hk with ⟨rfl, -⟩ | rfl <;> omega
  unfold extractStridedSlice
  rw [← es]
  dsimp only
  rcases hk with ⟨rfl, rfl⟩ | rfl
  · split <;> rfl
  · rw [if_neg (by rw [e0]; omega)]

theorem piece1 (x0 : Vec F S4096x128 .f32) (y0 y1 : Vec F S1024x768 .bf16) (y2 : Vec F S768x1024 .bf16) (c : ℕ) (hc : c < 8) (hs : S256x1024.Slices ![0, 128 * c] S256x128)
    (inb : ∀ a, S256x128.size a = 0 ∨ (![c, 0] : Fin 2 → ℕ) a + (![8, 1] : Fin 2 → ℕ) a * (S256x128.size a - 1) < S4096x128.size a)
    (hp : ∀ a, 0 < (![8, 1] : Fin 2 → ℕ) a) (x : S256x128.Idx) :
    extractStridedSlice S256x128 ![0, 128 * c] (half1 x0 y0 y1 y2) hs x
      = tileOut x0 y0 y1 y2 ((⟨⟨![c, 0], S256x128.size, ![8, 1], inb⟩, hp⟩ : Rect S4096x128).emb x) := by
  have h0 : (x 0).val < 256 := (x 0).isLt
  have e0 : (((⟨⟨![c, 0], S256x128.size, ![8, 1], inb⟩, hp⟩ : Rect S4096x128).emb x) 0).val = c + 8 * (x 0).val := rfl
  rw [piece_at (half1 x0 y0 y1 y2) (half1 x0 y0 y1 y2) c 0 c (by omega) hc hs inb hp x (Or.inl ⟨rfl, rfl⟩)]
  unfold tileOut
  have hlt : (((⟨⟨![c, 0], S256x128.size, ![8, 1], inb⟩, hp⟩ : Rect S4096x128).emb x) 0).val < 2048 := by rw [e0]; omega
  rw [if_pos hlt]
  exact if_pos hlt

theorem piece2 (x0 : Vec F S4096x128 .f32) (y0 y1 : Vec F S1024x768 .bf16) (y2 : Vec F S768x1024 .bf16) (o c : ℕ) (ho : o = 2048 * 1 + c) (hc : c < 8) (hs : S256x1024.Slices ![0, 128 * c] S256x128)
    (inb : ∀ a, S256x128.size a = 0 ∨ (![o, 0] : Fin 2 → ℕ) a + (![8, 1] : Fin 2 → ℕ) a * (S256x128.size a - 1) < S4096x128.size a)
    (hp : ∀ a, 0 < (![8, 1] : Fin 2 → ℕ) a) (x : S256x128.Idx) :
    extractStridedSlice S256x128 ![0, 128 * c] (half2 x0 y0 y1 y2) hs x
      = tileOut x0 y0 y1 y2 ((⟨⟨![o, 0], S256x128.size, ![8, 1], inb⟩, hp⟩ : Rect S4096x128).emb x) :=
  piece_at (half1 x0 y0 y1 y2) (half2 x0 y0 y1 y2) o 1 c ho hc hs inb hp x (Or.inr rfl)

/-- A row of the block lies in the store that starts at its own residue. -/
theorem mem_piece (o : ℕ) (inb : ∀ a, S256x128.size a = 0 ∨ (![o, 0] : Fin 2 → ℕ) a + (![8, 1] : Fin 2 → ℕ) a * (S256x128.size a - 1) < S4096x128.size a)
    (hp : ∀ a, 0 < (![8, 1] : Fin 2 → ℕ) a) (y : S4096x128.Idx) (j : ℕ) (hj : j < 256) (h : (y 0).val = o + 8 * j) :
    y ∈ (⟨⟨![o, 0], S256x128.size, ![8, 1], inb⟩, hp⟩ : Rect S4096x128).set := by
  refine LoadRect.mem_set _ |>.mpr fun a => ?_
  match a with
  | ⟨0, _⟩ => exact ⟨j, hj, h⟩
  | ⟨1, _⟩ => exact ⟨(y 1).val, (y 1).isLt, by show (y 1).val = 0 + 1 * (y 1).val; omega⟩

end Cert.Experts

end
-- ==== Proof.ExpertsRun.lean ====
/- One run of the experts' kernel body: the weights reloaded when the expert changes, and the block stored. -/
module

public import proofs.«01_k».proof.Proof.ExpertsTile
public import Idealize.ShloMosaic.Lib.VecWindow

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert of this point, of the point before it, and the number of points in use, as the body reads them. -/
def eNow (c : Dev nD) (i : grid0.Coords) (xt0 : TbBuf0 (F := F) c tbM0_0) : BitVec 32 :=
  View.readAt (Elt F) tbM0_0.view (Rect.unit (s := S148) (k0_off1 i) S1.size (k0_off1_inb i)).toLoadRect xt0 (Shape.Idx.first (by show 0 < S1.numel; rw [numel1_S1]; exact Nat.one_pos))
def ePrev (c : Dev nD) (i : grid0.Coords) (xt0 : TbBuf0 (F := F) c tbM0_0) : BitVec 32 :=
  View.readAt (Elt F) tbM0_0.view (Rect.unit (s := S148) (k0_off2 i) S1.size (k0_off2_inb i)).toLoadRect xt0 (Shape.Idx.first (by show 0 < S1.numel; rw [numel1_S1]; exact Nat.one_pos))
def nUsed (c : Dev nD) (xt2 : TbBuf0 (F := F) c tbM0_2) : BitVec 32 :=
  View.readAt (Elt F) tbM0_2.view (Rect.unit (s := S1) ![0] S1.size inb_S1_S1_0).toLoadRect xt2 (Shape.Idx.first (by show 0 < S1.numel; rw [numel1_S1]; exact Nat.one_pos))

/-- Whether the body reloads the weights. -/
def reload (c : Dev nD) (i : grid0.Coords) (xt0 : TbBuf0 (F := F) c tbM0_0) : Prop :=
  Scalar.cmpi .ne (Scalar.extui (Scalar.ori (Scalar.cmpi .eq (BitVec.ofNat 32 (i 0).val) 0#32) (Scalar.cmpi .ne (eNow c i xt0) (ePrev c i xt0))) : BitVec 32) 0#32 = 1#1

open Classical in
/-- A weight held after the reload. -/
def held {s : Shape} {e : EltTy} (p : Prop) (new old : Vec F s e) : Vec F s e := if p then new else old

/-- The block the point leaves. -/
def left (i : grid0.Coords) (n : BitVec 32) (x0 : Vec F S4096x128 .f32) (y0 y1 : Vec F S1024x768 .bf16) (y2 : Vec F S768x1024 .bf16) : Vec F S4096x128 .f32 :=
  held (k0_cond3 i n = 1#1) k0_pay5 (tileOut x0 y0 y1 y2)

instance (c : Dev nD) (i : grid0.Coords) (xt0 : TbBuf0 (F := F) c tbM0_0) : Decidable (reload c i xt0) :=
  inferInstanceAs (Decidable (Scalar.cmpi .ne (Scalar.extui (Scalar.ori (Scalar.cmpi .eq (BitVec.ofNat 32 (i 0).val) 0#32) (Scalar.cmpi .ne (eNow c i xt0) (ePrev c i xt0))) : BitVec 32) 0#32 = 1#1))

/-- A load of the whole of a buffer is its contents. -/
theorem load_whole {s : Shape} {e : EltTy} (a : Memref sig .tc .vmem s e) (off : Fin s.rank → ℕ) (inb : ∀ k, off k + s.size k ≤ s.size k)
    (f : BufTy.Contents (Elt F) a.view.ty) (G : Vec F s e) (h : a.view.read (Elt F) f = G) :
    View.readAt (Elt F) a.view (Rect.unit off s.size inb).toLoadRect f = G :=
  funext fun j => (congrFun h _).trans (congrArg G (funext fun k => Fin.ext (by
    show off k + 1 * (j k).val = (j k).val
    have := inb k; omega)))

theorem half1_unread (a : Memref sig .tc .vmem S4096x128 .f32) (ha : a.IsWhole) (x0 : Vec F S4096x128 .f32) (v0 v1 y0 y1 : Vec F S1024x768 .bf16) (v2 y2 : Vec F S768x1024 .bf16)
    (h0 : v0 = y0) (h1 : v1 = y1) (h2 : v2 = y2) :
    k0_pay6 (View.readAt (Elt F) a.view (⟨![0, 0], S256x128.size, ![8, 1], inb_S4096x128_S256x128_0_0_s_8_1⟩ : LoadRect S4096x128) (ha.unread x0))
      (View.readAt (Elt F) a.view (⟨![1, 0], S256x128.size, ![8, 1], inb_S4096x128_S256x128_1_0_s_8_1⟩ : LoadRect S4096x128) (ha.unread x0))
      (View.readAt (Elt F) a.view (⟨![2, 0], S256x128.size, ![8, 1], inb_S4096x128_S256x128_2_0_s_8_1⟩ : LoadRect S4096x128) (ha.unread x0))
      (View.readAt (Elt F) a.view (⟨![3, 0], S256x128.size, ![8, 1], inb_S4096x128_S256x128_3_0_s_8_1⟩ : LoadRect S4096x128) (ha.unread x0))
      (View.readAt (Elt F) a.view (⟨![4, 0], S256x128.size, ![8, 1], inb_S4096x128_S256x128_4_0_s_8_1⟩ : LoadRect S4096x128) (ha.unread x0))
      (View.readAt (Elt F) a.view (⟨![5, 0], S256x128.size, ![8, 1], inb_S4096x128_S256x128_5_0_s_8_1⟩ : LoadRect S4096x128) (ha.unread x0))
      (View.readAt (Elt F) a.view (⟨![6, 0], S256x128.size, ![8, 1], inb_S4096x128_S256x128_6_0_s_8_1⟩ : LoadRect S4096x128) (ha.unread x0))
      (View.readAt (Elt F) a.view (⟨![7, 0], S256x128.size, ![8, 1], inb_S4096x128_S256x128_7_0_s_8_1⟩ : LoadRect S4096x128) (ha.unread x0)) v0 v1 v2
      = half1 x0 y0 y1 y2 := by
  subst h0 h1 h2
  have e : ∀ o h, View.readAt (Elt F) a.view (⟨![o, 0], S256x128.size, ![8, 1], h⟩ : LoadRect S4096x128) (ha.unread x0) = rowsAt x0 o h :=
    fun o h => funext fun x => congrFun (ha.read_unread x0) _
  rw [e, e, e, e, e, e, e, e]; rfl

theorem half2_unread (a : Memref sig .tc .vmem S4096x128 .f32) (ha : a.IsWhole) (x0 : Vec F S4096x128 .f32) (v0 v1 y0 y1 : Vec F S1024x768 .bf16) (v2 y2 : Vec F S768x1024 .bf16)
    (h0 : v0 = y0) (h1 : v1 = y1) (h2 : v2 = y2) :
    k0_pay6 (View.readAt (Elt F) a.view (⟨![2048, 0], S256x128.size, ![8, 1], inb_S4096x128_S256x128_2048_0_s_8_1⟩ : LoadRect S4096x128) (ha.unread x0))
      (View.readAt (Elt F) a.view (⟨![2049, 0], S256x128.size, ![8, 1], inb_S4096x128_S256x128_2049_0_s_8_1⟩ : LoadRect S4096x128) (ha.unread x0))
      (View.readAt (Elt F) a.view (⟨![2050, 0], S256x128.size, ![8, 1], inb_S4096x128_S256x128_2050_0_s_8_1⟩ : LoadRect S4096x128) (ha.unread x0))
      (View.readAt (Elt F) a.view (⟨![2051, 0], S256x128.size, ![8, 1], inb_S4096x128_S256x128_2051_0_s_8_1⟩ : LoadRect S4096x128) (ha.unread x0))
      (View.readAt (Elt F) a.view (⟨![2052, 0], S256x128.size, ![8, 1], inb_S4096x128_S256x128_2052_0_s_8_1⟩ : LoadRect S4096x128) (ha.unread x0))
      (View.readAt (Elt F) a.view (⟨![2053, 0], S256x128.size, ![8, 1], inb_S4096x128_S256x128_2053_0_s_8_1⟩ : LoadRect S4096x128) (ha.unread x0))
      (View.readAt (Elt F) a.view (⟨![2054, 0], S256x128.size, ![8, 1], inb_S4096x128_S256x128_2054_0_s_8_1⟩ : LoadRect S4096x128) (ha.unread x0))
      (View.readAt (Elt F) a.view (⟨![2055, 0], S256x128.size, ![8, 1], inb_S4096x128_S256x128_2055_0_s_8_1⟩ : LoadRect S4096x128) (ha.unread x0)) v0 v1 v2
      = half2 x0 y0 y1 y2 := by
  subst h0 h1 h2
  have e : ∀ o h, View.readAt (Elt F) a.view (⟨![o, 0], S256x128.size, ![8, 1], h⟩ : LoadRect S4096x128) (ha.unread x0) = rowsAt x0 o h :=
    fun o h => funext fun x => congrFun (ha.read_unread x0) _
  rw [e, e, e, e, e, e, e, e]; rfl

/-- The block after a store of the whole, or before it. -/
theorem read_held {s : Shape} {e : EltTy} (a : Memref sig .tc .vmem s e) (ha : a.IsWhole) (p : Prop) [Decidable p] (new old : Vec F s e)
    (g : p → BufTy.Contents (Elt F) a.view.ty) (hg : ∀ h, a.view.read (Elt F) (g h) = new) :
    a.view.read (Elt F) (if h : p then g h else ha.unread old) = held p new old := by
  unfold held
  by_cases h : p
  · rw [dif_pos h, if_pos h]; exact hg h
  · rw [dif_neg h, if_neg h]; exact ha.read_unread old

/-- The block after one of two stores of the whole. -/
theorem read_left {s : Shape} {e : EltTy} (a : Memref sig .tc .vmem s e) (p q : Prop) [Decidable p] [Decidable q] (new old : Vec F s e)
    (g : p → BufTy.Contents (Elt F) a.view.ty) (k : q → BufTy.Contents (Elt F) a.view.ty) (f : BufTy.Contents (Elt F) a.view.ty) (hpq : q ∨ p)
    (hg : ∀ h, a.view.read (Elt F) (g h) = new) (hk : ∀ h, a.view.read (Elt F) (k h) = old) :
    a.view.read (Elt F) (if h : p then g h else if h : q then k h else f) = held p new old := by
  unfold held
  by_cases h : p
  · rw [dif_pos h, if_pos h]; exact hg h
  · rw [dif_neg h, if_neg h, dif_pos (hpq.resolve_right h)]; exact hk _

set_option maxHeartbeats 4000000 in
theorem run_body (c : Dev nD) (i : grid0.Coords) (arg4 : Memref sig .tc .vmem S4096x128 .f32) (harg4 : arg4.IsWhole) (arg5 : Memref sig .tc .vmem S1x1x1024x768 .f32) (harg5 : arg5.IsWhole) (arg6 : Memref sig .tc .vmem S1x1x1024x768 .f32) (harg6 : arg6.IsWhole) (arg7 : Memref sig .tc .vmem S1x1x768x1024 .f32) (harg7 : arg7.IsWhole) (arg8 : Memref sig .tc .vmem S4096x128 .f32) (harg8 : arg8.IsWhole) (arg9 : Memref sig .tc .vmem S1024x768 .bf16) (harg9 : arg9.IsWhole) (arg10 : Memref sig .tc .vmem S1024x768 .bf16) (harg10 : arg10.IsWhole) (arg11 : Memref sig .tc .vmem S768x1024 .bf16) (harg11 : arg11.IsWhole)
    (x0 : Vec F S4096x128 .f32) (x1 : Vec F S1x1x1024x768 .f32) (x2 : Vec F S1x1x1024x768 .f32) (x3 : Vec F S1x1x768x1024 .f32) (xt0 : TbBuf0 (F := F) c tbM0_0) (xt1 : TbBuf0 (F := F) c tbM0_1) (xt2 : TbBuf0 (F := F) c tbM0_2) (y0 : Vec F S1024x768 .bf16) (y1 : Vec F S1024x768 .bf16) (y2 : Vec F S768x1024 .bf16)
    (hcond : k0_cond2 i (nUsed c xt2) = 1#1 ∨ k0_cond3 i (nUsed c xt2) = 1#1) (E : Set ℕ) (K : PUnit → sProp 𝕄) :
   iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare y0 ∗ owns (c : Thread nD τ) arg10 fullShare y1 ∗ owns (c : Thread nD τ) arg11 fullShare y2 ∗ tbPt0 c tbM0_0 xt0 ∗ tbPt0 c tbM0_1 xt1 ∗ tbPt0 c tbM0_2 xt2
      ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare (left i (nUsed c xt2) x0 (held (reload c i xt0) (k0_pay1 x1) y0) (held (reload c i xt0) (k0_pay2 x2) y1) (held (reload c i xt0) (k0_pay3 x3) y2))
          ∗ owns (c : Thread nD τ) arg9 fullShare (held (reload c i xt0) (k0_pay1 x1) y0) ∗ owns (c : Thread nD τ) arg10 fullShare (held (reload c i xt0) (k0_pay2 x2) y1) ∗ owns (c : Thread nD τ) arg11 fullShare (held (reload c i xt0) (k0_pay3 x3) y2)
          ∗ tbPt0 c tbM0_0 xt0 ∗ tbPt0 c tbM0_1 xt1 ∗ tbPt0 c tbM0_2 xt2) -∗ K ⟨⟩))
          ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11) K := by
    simp only [cc0_moe_ffn_eq_skeleton]; unfold cc0_moe_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, HT2, Hk⟩
    obtain rfl := harg4.eq_unread hf0; obtain rfl := harg5.eq_unread hf1; obtain rfl := harg6.eq_unread hf2; obtain rfl := harg7.eq_unread hf3
    obtain rfl := harg9.eq_unread hs0; obtain rfl := harg10.eq_unread hs1; obtain rfl := harg11.eq_unread hs2
    sl_exec
    sl_step
    iapply Hk
    have e1 : View.readAt (Elt F) arg5.view (Rect.unit (s := S1x1x1024x768) ![0, 0, 0, 0] S1x1x1024x768.size inb_S1x1x1024x768_S1x1x1024x768_0_0_0_0).toLoadRect (harg5.unread x1) = x1 :=
      load_whole arg5 _ _ _ _ (harg5.read_unread x1)
    have e2 : View.readAt (Elt F) arg6.view (Rect.unit (s := S1x1x1024x768) ![0, 0, 0, 0] S1x1x1024x768.size inb_S1x1x1024x768_S1x1x1024x768_0_0_0_0).toLoadRect (harg6.unread x2) = x2 :=
      load_whole arg6 _ _ _ _ (harg6.read_unread x2)
    have e3 : View.readAt (Elt F) arg7.view (Rect.unit (s := S1x1x768x1024) ![0, 0, 0, 0] S1x1x768x1024.size inb_S1x1x768x1024_S1x1x768x1024_0_0_0_0).toLoadRect (harg7.unread x3) = x3 :=
      load_whole arg7 _ _ _ _ (harg7.read_unread x3)
    have hv0 := load_whole arg9 ![0, 0] inb_S1024x768_S1024x768_0_0 _ _ (read_held arg9 harg9 (reload c i xt0) (k0_pay1 x1) y0
      (fun _ => arg9.view.writes (Elt F) (harg9.unread y0) [⟨Rect.unit (s := S1024x768) ![0, 0] S1024x768.size inb_S1024x768_S1024x768_0_0, k0_pay1 (View.readAt (Elt F) arg5.view (Rect.unit (s := S1x1x1024x768) ![0, 0, 0, 0] S1x1x1024x768.size inb_S1x1x1024x768_S1x1x1024x768_0_0_0_0).toLoadRect (harg5.unread x1))⟩])
      fun _ => (View.read_writes_full _ _ _ _ _).trans (congrArg k0_pay1 e1))
    have hv1 := load_whole arg10 ![0, 0] inb_S1024x768_S1024x768_0_0 _ _ (read_held arg10 harg10 (reload c i xt0) (k0_pay2 x2) y1
      (fun _ => arg10.view.writes (Elt F) (harg10.unread y1) [⟨Rect.unit (s := S1024x768) ![0, 0] S1024x768.size inb_S1024x768_S1024x768_0_0, k0_pay2 (View.readAt (Elt F) arg6.view (Rect.unit (s := S1x1x1024x768) ![0, 0, 0, 0] S1x1x1024x768.size inb_S1x1x1024x768_S1x1x1024x768_0_0_0_0).toLoadRect (harg6.unread x2))⟩])
      fun _ => (View.read_writes_full _ _ _ _ _).trans (congrArg k0_pay2 e2))
    have hv2 := load_whole arg11 ![0, 0] inb_S768x1024_S768x1024_0_0 _ _ (read_held arg11 harg11 (reload c i xt0) (k0_pay3 x3) y2
      (fun _ => arg11.view.writes (Elt F) (harg11.unread y2) [⟨Rect.unit (s := S768x1024) ![0, 0] S768x1024.size inb_S768x1024_S768x1024_0_0, k0_pay3 (View.readAt (Elt F) arg7.view (Rect.unit (s := S1x1x768x1024) ![0, 0, 0, 0] S1x1x768x1024.size inb_S1x1x768x1024_S1x1x768x1024_0_0_0_0).toLoadRect (harg7.unread x3))⟩])
      fun _ => (View.read_writes_full _ _ _ _ _).trans (congrArg k0_pay3 e3))
    have hh1 := half1_unread arg4 harg4 x0 _ _ _ _ _ _ hv0 hv1 hv2
    have hh2 := half2_unread arg4 harg4 x0 _ _ _ _ _ _ hv0 hv1 hv2
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro
      refine read_left arg8 (k0_cond3 i (nUsed c xt2) = 1#1) (k0_cond2 i (nUsed c xt2) = 1#1) k0_pay5 _ _ _ _ hcond (fun h => ?_) fun h => ?_
      · exact View.read_writes_full _ _ _ _ _
      · refine read_full arg8 _ _ _ ⟨?_, ?_, ?_, ?_, ?_, ?_, ?_, ?_, ?_, ?_, ?_, ?_, ?_, ?_, ?_, ?_, trivial⟩ ?_
        · intro x
          refine Eq.trans ?_ (Eq.trans (congrFun (congrArg (fun B : FVec F S256x1024 .f32 => extractStridedSlice S256x128 ![0, 896] B slices_S256x1024_o0_896_S256x128) hh2) x) ?_)
          · with_unfolding_all rfl
          · exact piece2 x0 _ _ _ 2055 7 rfl (by decide) slices_S256x1024_o0_896_S256x128 _ _ x
        · intro x
          refine Eq.trans ?_ (Eq.trans (congrFun (congrArg (fun B : FVec F S256x1024 .f32 => extractStridedSlice S256x128 ![0, 768] B slices_S256x1024_o0_768_S256x128) hh2) x) ?_)
          · with_unfolding_all rfl
          · exact piece2 x0 _ _ _ 2054 6 rfl (by decide) slices_S256x1024_o0_768_S256x128 _ _ x
        · intro x
          refine Eq.trans ?_ (Eq.trans (congrFun (congrArg (fun B : FVec F S256x1024 .f32 => extractStridedSlice S256x128 ![0, 640] B slices_S256x1024_o0_640_S256x128) hh2) x) ?_)
          · with_unfolding_all rfl
          · exact piece2 x0 _ _ _ 2053 5 rfl (by decide) slices_S256x1024_o0_640_S256x128 _ _ x
        · intro x
          refine Eq.trans ?_ (Eq.trans (congrFun (congrArg (fun B : FVec F S256x1024 .f32 => extractStridedSlice S256x128 ![0, 512] B slices_S256x1024_o0_512_S256x128) hh2) x) ?_)
          · with_unfolding_all rfl
          · exact piece2 x0 _ _ _ 2052 4 rfl (by decide) slices_S256x1024_o0_512_S256x128 _ _ x
        · intro x
          refine Eq.trans ?_ (Eq.trans (congrFun (congrArg (fun B : FVec F S256x1024 .f32 => extractStridedSlice S256x128 ![0, 384] B slices_S256x1024_o0_384_S256x128) hh2) x) ?_)
          · with_unfolding_all rfl
          · exact piece2 x0 _ _ _ 2051 3 rfl (by decide) slices_S256x1024_o0_384_S256x128 _ _ x
        · intro x
          refine Eq.trans ?_ (Eq.trans (congrFun (congrArg (fun B : FVec F S256x1024 .f32 => extractStridedSlice S256x128 ![0, 256] B slices_S256x1024_o0_256_S256x128) hh2) x) ?_)
          · with_unfolding_all rfl
          · exact piece2 x0 _ _ _ 2050 2 rfl (by decide) slices_S256x1024_o0_256_S256x128 _ _ x
        · intro x
          refine Eq.trans ?_ (Eq.trans (congrFun (congrArg (fun B : FVec F S256x1024 .f32 => extractStridedSlice S256x128 ![0, 128] B slices_S256x1024_o0_128_S256x128) hh2) x) ?_)
          · with_unfolding_all rfl
          · exact piece2 x0 _ _ _ 2049 1 rfl (by decide) slices_S256x1024_o0_128_S256x128 _ _ x
        · intro x
          refine Eq.trans ?_ (Eq.trans (congrFun (congrArg (fun B : FVec F S256x1024 .f32 => extractStridedSlice S256x128 ![0, 0] B slices_S256x1024_o0_0_S256x128) hh2) x) ?_)
          · with_unfolding_all rfl
          · exact piece2 x0 _ _ _ 2048 0 rfl (by decide) slices_S256x1024_o0_0_S256x128 _ _ x
        · intro x
          refine Eq.trans ?_ (Eq.trans (congrFun (congrArg (fun B : FVec F S256x1024 .f32 => extractStridedSlice S256x128 ![0, 896] B slices_S256x1024_o0_896_S256x128) hh1) x) ?_)
          · with_unfolding_all rfl
          · exact piece1 x0 _ _ _ 7 (by decide) slices_S256x1024_o0_896_S256x128 _ _ x
        · intro x
          refine Eq.trans ?_ (Eq.trans (congrFun (congrArg (fun B : FVec F S256x1024 .f32 => extractStridedSlice S256x128 ![0, 768] B slices_S256x1024_o0_768_S256x128) hh1) x) ?_)
          · with_unfolding_all rfl
          · exact piece1 x0 _ _ _ 6 (by decide) slices_S256x1024_o0_768_S256x128 _ _ x
        · intro x
          refine Eq.trans ?_ (Eq.trans (congrFun (congrArg (fun B : FVec F S256x1024 .f32 => extractStridedSlice S256x128 ![0, 640] B slices_S256x1024_o0_640_S256x128) hh1) x) ?_)
          · with_unfolding_all rfl
          · exact piece1 x0 _ _ _ 5 (by decide) slices_S256x1024_o0_640_S256x128 _ _ x
        · intro x
          refine Eq.trans ?_ (Eq.trans (congrFun (congrArg (fun B : FVec F S256x1024 .f32 => extractStridedSlice S256x128 ![0, 512] B slices_S256x1024_o0_512_S256x128) hh1) x) ?_)
          · with_unfolding_all rfl
          · exact piece1 x0 _ _ _ 4 (by decide) slices_S256x1024_o0_512_S256x128 _ _ x
        · intro x
          refine Eq.trans ?_ (Eq.trans (congrFun (congrArg (fun B : FVec F S256x1024 .f32 => extractStridedSlice S256x128 ![0, 384] B slices_S256x1024_o0_384_S256x128) hh1) x) ?_)
          · with_unfolding_all rfl
          · exact piece1 x0 _ _ _ 3 (by decide) slices_S256x1024_o0_384_S256x128 _ _ x
        · intro x
          refine Eq.trans ?_ (Eq.trans (congrFun (congrArg (fun B : FVec F S256x1024 .f32 => extractStridedSlice S256x128 ![0, 256] B slices_S256x1024_o0_256_S256x128) hh1) x) ?_)
          · with_unfolding_all rfl
          · exact piece1 x0 _ _ _ 2 (by decide) slices_S256x1024_o0_256_S256x128 _ _ x
        · intro x
          refine Eq.trans ?_ (Eq.trans (congrFun (congrArg (fun B : FVec F S256x1024 .f32 => extractStridedSlice S256x128 ![0, 128] B slices_S256x1024_o0_128_S256x128) hh1) x) ?_)
          · with_unfolding_all rfl
          · exact piece1 x0 _ _ _ 1 (by decide) slices_S256x1024_o0_128_S256x128 _ _ x
        · intro x
          refine Eq.trans ?_ (Eq.trans (congrFun (congrArg (fun B : FVec F S256x1024 .f32 => extractStridedSlice S256x128 ![0, 0] B slices_S256x1024_o0_0_S256x128) hh1) x) ?_)
          · with_unfolding_all rfl
          · exact piece1 x0 _ _ _ 0 (by decide) slices_S256x1024_o0_0_S256x128 _ _ x
        · intro y
          have hy : (y 0).val < 4096 := (y 0).isLt
          rcases Nat.lt_or_ge (y 0).val 2048 with hk | hk
          · have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
            rcases h8 with h8 | h8 | h8 | h8 | h8 | h8 | h8 | h8
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem_piece 0 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_piece 1 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_piece 2 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_piece 3 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_piece 4 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_piece 5 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem_piece 6 _ _ y (((y 0).val - 0) / 8) (by omega) (by omega)⟩
            · exact ⟨_, (List.Mem.tail _ (List.Mem.tail _ (List.Mem.tail _ (List.Mem.tail _ (List.Mem.tail _ (List.Mem.tail _ (List.Mem.tail _ (List.Mem.tail _ (List.Mem.head _))))))))), mem_piece 7 _ _ y (((y 0).val - 0) / 8) (by omega) (by omega)⟩
          · have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
            rcases h8 with h8 | h8 | h8 | h8 | h8 | h8 | h8 | h8
            · exact ⟨_, (List.Mem.tail _ (List.Mem.tail _ (List.Mem.tail _ (List.Mem.tail _ (List.Mem.tail _ (List.Mem.tail _ (List.Mem.tail _ (List.Mem.head _)))))))), mem_piece 2048 _ _ y (((y 0).val - 2048) / 8) (by omega) (by omega)⟩
            · exact ⟨_, (List.Mem.tail _ (List.Mem.tail _ (List.Mem.tail _ (List.Mem.tail _ (List.Mem.tail _ (List.Mem.tail _ (List.Mem.head _))))))), mem_piece 2049 _ _ y (((y 0).val - 2048) / 8) (by omega) (by omega)⟩
            · exact ⟨_, (List.Mem.tail _ (List.Mem.tail _ (List.Mem.tail _ (List.Mem.tail _ (List.Mem.tail _ (List.Mem.head _)))))), mem_piece 2050 _ _ y (((y 0).val - 2048) / 8) (by omega) (by omega)⟩
            · exact ⟨_, (List.Mem.tail _ (List.Mem.tail _ (List.Mem.tail _ (List.Mem.tail _ (List.Mem.head _))))), mem_piece 2051 _ _ y (((y 0).val - 2048) / 8) (by omega) (by omega)⟩
            · exact ⟨_, (List.Mem.tail _ (List.Mem.tail _ (List.Mem.tail _ (List.Mem.head _)))), mem_piece 2052 _ _ y (((y 0).val - 2048) / 8) (by omega) (by omega)⟩
            · exact ⟨_, (List.Mem.tail _ (List.Mem.tail _ (List.Mem.head _))), mem_piece 2053 _ _ y (((y 0).val - 2048) / 8) (by omega) (by omega)⟩
            · exact ⟨_, (List.Mem.tail _ (List.Mem.head _)), mem_piece 2054 _ _ y (((y 0).val - 2048) / 8) (by omega) (by omega)⟩
            · exact ⟨_, (List.Mem.head _), mem_piece 2055 _ _ y (((y 0).val - 2048) / 8) (by omega) (by omega)⟩
    isplitl [HS0]
    · iexists _; isplitr; swap; · iexact HS0
      ipureintro
      refine read_held arg9 harg9 (reload c i xt0) (k0_pay1 x1) y0 _ fun h => ?_
      exact (View.read_writes_full _ _ _ _ _).trans (congrArg k0_pay1 e1)
    isplitl [HS1]
    · iexists _; isplitr; swap; · iexact HS1
      ipureintro
      refine read_held arg10 harg10 (reload c i xt0) (k0_pay2 x2) y1 _ fun h => ?_
      exact (View.read_writes_full _ _ _ _ _).trans (congrArg k0_pay2 e2)
    isplitl [HS2]
    · iexists _; isplitr; swap; · iexact HS2
      ipureintro
      refine read_held arg11 harg11 (reload c i xt0) (k0_pay3 x3) y2 _ fun h => ?_
      exact (View.read_writes_full _ _ _ _ _).trans (congrArg k0_pay3 e3)
    isplitl [HT0]
    · iexact HT0
    isplitl [HT1]
    · iexact HT1
    iexact HT2

end Cert.Experts

end
-- ==== Proof.ExpertsBody.lean ====
/- The experts' kernel over its whole grid: the weights held from point to point. -/
module

public import proofs.«01_k».proof.Proof.ExpertsRun

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is before the number of points in use or not. -/
theorem cond_or (i : grid0.Coords) (n : BitVec 32) : k0_cond2 i n = 1#1 ∨ k0_cond3 i n = 1#1 := by
  have h : ∀ b : Bool, (Scalar.cmpi .ne (Scalar.extui (BitVec.ofBool b)) 0#32 : BitVec 1) = BitVec.ofBool b := by decide
  by_cases hs : (BitVec.ofNat 32 (i 0).val).slt n = true
  · left
    show Scalar.cmpi .ne (Scalar.extui (BitVec.ofBool ((BitVec.ofNat 32 (i 0).val).slt n))) 0#32 = 1#1
    rw [h, hs]; rfl
  · right
    show Scalar.cmpi .ne (Scalar.extui (BitVec.ofBool (n.sle (BitVec.ofNat 32 (i 0).val)))) 0#32 = 1#1
    rw [h]
    have : n.sle (BitVec.ofNat 32 (i 0).val) = true := by
      rw [BitVec.sle_eq_decide]; rw [BitVec.slt_eq_decide] at hs
      simp only [decide_eq_true_eq] at hs ⊢
      omega
    rw [this]; rfl

/-- The first point loads the weights. -/
theorem reload_first (c : Dev nD) (i : grid0.Coords) (h : (i 0).val = 0) (xt0 : TbBuf0 (F := F) c tbM0_0) : reload c i xt0 := by
  unfold reload
  rw [h]
  generalize Scalar.cmpi .ne (eNow c i xt0) (ePrev c i xt0) = b
  revert b; decide

theorem held_pos {s : Shape} {e : EltTy} {p : Prop} (h : p) (a b : Vec F s e) : held p a b = a := if_pos h
theorem held_neg {s : Shape} {e : EltTy} {p : Prop} (h : ¬p) (a b : Vec F s e) : held p a b = b := if_neg h

/-- A value carried through steps. -/
def steps {α : Type} (N : ℕ) (a : α) (f : Fin N → α → α) : ℕ → α
  | 0 => a
  | n + 1 => if h : n < N then f ⟨n, h⟩ (steps N a f n) else steps N a f n
theorem steps_succ {α : Type} (N : ℕ) (a : α) (f : Fin N → α → α) (t : Fin N) : steps N a f (t.val + 1) = f t (steps N a f t.val) := by
  rw [steps, dif_pos t.isLt]

section
variable (hO : Ok m) (c : Dev nD)

/-- The weights held after the first `n` points. -/
def w0 : ℕ → Vec F S1024x768 .bf16 := steps (cfgM m hO).N (k0_pay1 (iblk m hO c 1 ⟨0, by show 0 < grid0.N; rw [N_0]; decide⟩)) fun t y => held (reload c (grid0.coords t) (tbl m 0)) (k0_pay1 (iblk m hO c 1 t)) y
def w1 : ℕ → Vec F S1024x768 .bf16 := steps (cfgM m hO).N (k0_pay2 (iblk m hO c 2 ⟨0, by show 0 < grid0.N; rw [N_0]; decide⟩)) fun t y => held (reload c (grid0.coords t) (tbl m 0)) (k0_pay2 (iblk m hO c 2 t)) y
def w2 : ℕ → Vec F S768x1024 .bf16 := steps (cfgM m hO).N (k0_pay3 (iblk m hO c 3 ⟨0, by show 0 < grid0.N; rw [N_0]; decide⟩)) fun t y => held (reload c (grid0.coords t) (tbl m 0)) (k0_pay3 (iblk m hO c 3 t)) y

theorem w0_succ (t : Fin (cfgM m hO).N) : w0 m hO c (t.val + 1) = held (reload c (grid0.coords t) (tbl m 0)) (k0_pay1 (iblk m hO c 1 t)) (w0 m hO c t.val) := steps_succ _ _ _ t
theorem w1_succ (t : Fin (cfgM m hO).N) : w1 m hO c (t.val + 1) = held (reload c (grid0.coords t) (tbl m 0)) (k0_pay2 (iblk m hO c 2 t)) (w1 m hO c t.val) := steps_succ _ _ _ t
theorem w2_succ (t : Fin (cfgM m hO).N) : w2 m hO c (t.val + 1) = held (reload c (grid0.coords t) (tbl m 0)) (k0_pay3 (iblk m hO c 3 t)) (w2 m hO c t.val) := steps_succ _ _ _ t

/-- The block point `t` leaves. -/
def outAt (t : Fin (cfgM m hO).N) : Vec F S4096x128 .f32 :=
  left (grid0.coords t) (nUsed c (tbl m 2)) (iblk m hO c 0 t) (w0 m hO c (t.val + 1)) (w1 m hO c (t.val + 1)) (w2 m hO c (t.val + 1))

/-- What holds between points: the weights, after the first. -/
def inv (t : ℕ) : sProp 𝕄 :=
  iprop((∃ y0 y1 y2, ⌜t ≠ 0 → y0 = w0 m hO c t ∧ y1 = w1 m hO c t ∧ y2 = w2 m hO c t⌝ ∗ owns (c : Thread nD τ) scM0_0 fullShare y0 ∗ owns (c : Thread nD τ) scM0_1 fullShare y1 ∗ owns (c : Thread nD τ) scM0_2 fullShare y2)
    ∗ (∃ r, prngReg c r) ∗ tbPt0 c tbM0_0 (tbl m 0) ∗ tbPt0 c tbM0_1 (tbl m 1) ∗ tbPt0 c tbM0_2 (tbl m 2))

end

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The body, on the point's staging buffers. -/
abbrev bodyAt0 (a : (pcfg0 (F := F)).Adm) (t : Fin (cfg0 a).N) : Prog (TpuEff nD τ sig (Elt F) Λ₀ .tc) PUnit :=
  cc0_moe_ffn (grid0.coords t) (Memref.whole main_v39) (Memref.isWhole_whole _) (Memref.whole main_v43) (Memref.isWhole_whole _) (Memref.whole main_v44) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

theorem coords_val (t : Fin grid0.N) : (grid0.coords t 0).val = t.val := by
  revert t; decide +kernel

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.castSucc = inv m hO c t.val from rfl, show (dats m hO 0 c).Φ t.succ = inv m hO c (t.val + 1) from rfl]
  unfold inv
  iintro ⟨⟨⟨%y0, %y1, %y2, %hy, HS0, HS1, HS2⟩, Hg, HT0, HT1, HT2⟩, Ho, ⟨%d0, H0⟩, ⟨%d1, H1⟩, ⟨%d2, H2⟩, ⟨%d3, H3⟩, ⟨%d4, H4⟩⟩
  have hn : held (reload c (grid0.coords t) (tbl m 0)) (k0_pay1 (iblk m hO c 1 t)) y0 = w0 m hO c (t.val + 1)
      ∧ held (reload c (grid0.coords t) (tbl m 0)) (k0_pay2 (iblk m hO c 2 t)) y1 = w1 m hO c (t.val + 1)
      ∧ held (reload c (grid0.coords t) (tbl m 0)) (k0_pay3 (iblk m hO c 3 t)) y2 = w2 m hO c (t.val + 1) := by
    rw [w0_succ, w1_succ, w2_succ]
    by_cases ht : t.val = 0
    · have hr := reload_first c (grid0.coords t) ((coords_val t).trans ht) (tbl m 0)
      simp only [held_pos hr, and_self]
    · obtain ⟨rfl, rfl, rfl⟩ := hy ht
      exact ⟨rfl, rfl, rfl⟩
  iapply (run_body c (grid0.coords t) _ _ _ _ _ _ _ _ _ _ _ _ _ _ _ _ (iblk m hO c 0 t) (iblk m hO c 1 t) (iblk m hO c 2 t) (iblk m hO c 3 t) (tbl m 0) (tbl m 1) (tbl m 2) y0 y1 y2 (cond_or _ _) Set.univ _)
  rw [hn.1, hn.2.1, hn.2.2]
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, HS0, HS1, HS2, HT0, HT1, HT2⟩
  isplitl [HS0 HS1 HS2 Hg HT0 HT1 HT2]
  · isplitl [HS0 HS1 HS2]
    · iexists _, _, _
      isplitr
      · ipureintro; exact fun _ => ⟨rfl, rfl, rfl⟩
      isplitl [HS0]
      · iexact HS0
      isplitl [HS1]
      · iexact HS1
      iexact HS2
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iexact H4

end Cert.Experts

end
-- ==== Proof.ExpertsLaunch.lean ====
/- The experts' kernel over its whole grid: the run, and the frames. -/
module

public import proofs.«01_k».proof.Proof.ExpertsBody

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (a : (pcfg0 (F := F)).Adm) (t : Fin (cfg0 a).N) :
    defs₀ (F := F) .tc (cfg0 a).body ((cfg0 a).bodyArgs t ((cfg0 a).slots t)) = bodyAt0 a t := by
  unfold defs₀; rw [Defs.onTc_tc]

/-- No point leaves the output's block alone. -/
theorem never (i : grid0.Coords) (n : BitVec 32) : (!(k0_cond2 i n == 1#1) && !(k0_cond3 i n == 1#1)) = false := by
  rcases cond_or i n with h | h
  · rw [beq_iff_eq.mpr h]; rfl
  · rw [beq_iff_eq.mpr h]; exact Bool.and_false _

theorem not_idle (a : (pcfg0 (F := F)).Adm) (t : Fin (cfg0 a).N) : (cfg0 a).idle 4 ((cfg0 a).grid.coords t) = false := never _ _

theorem leaves_of {a : (pcfg0 (F := F)).Adm} {c : Dev nD} (dat : Dat τ (Elt F) Unit ℕ (UR sig nD τ) ℕ (cfg0 a) c) (t : Fin (cfg0 a).N) :
    owns (c : Thread nD τ) (((cfg0 a).win 4).stage ((cfg0 a).slots t 4)) fullShare (dat.after 4 t) ⊢ (dat.leavesExact 4 t : sProp 𝕄) := by
  unfold Dat.leavesExact
  rw [not_idle a t]

/-- A triple of the body is the launch's obligation, whatever the tables. -/
theorem obligation_of (a : (pcfg0 (F := F)).Adm) (c : Dev nD) (dat : Dat τ (Elt F) Unit ℕ (UR sig nD τ) ℕ (cfg0 a) c)
    (h : ∀ t : Fin (cfg0 a).N, iprop(dat.Φ t.castSucc ∗ dat.owesAt () t.castSucc
      ∗ (∃ d, owns (c : Thread nD τ) (spec0_0.stage ((cfg0 a).slots t 0)) fullShare (dat.before 0 t d))
      ∗ (∃ d, owns (c : Thread nD τ) (spec0_1.stage ((cfg0 a).slots t 1)) fullShare (dat.before 1 t d))
      ∗ (∃ d, owns (c : Thread nD τ) (spec0_2.stage ((cfg0 a).slots t 2)) fullShare (dat.before 2 t d))
      ∗ (∃ d, owns (c : Thread nD τ) (spec0_3.stage ((cfg0 a).slots t 3)) fullShare (dat.before 3 t d))
      ∗ (∃ d, owns (c : Thread nD τ) (spec0_4.stage ((cfg0 a).slots t 4)) fullShare (dat.before 4 t d)))
      ⊢ wp frame (wpE (defs₀ (F := F)) Variants.none c none) Set.univ (bodyAt0 a t) (fun _ => iprop(dat.Φ t.succ ∗ dat.owesAt () t.succ
      ∗ owns (c : Thread nD τ) (spec0_0.stage ((cfg0 a).slots t 0)) fullShare (dat.after 0 t)
      ∗ owns (c : Thread nD τ) (spec0_1.stage ((cfg0 a).slots t 1)) fullShare (dat.after 1 t)
      ∗ owns (c : Thread nD τ) (spec0_2.stage ((cfg0 a).slots t 2)) fullShare (dat.after 2 t)
      ∗ owns (c : Thread nD τ) (spec0_3.stage ((cfg0 a).slots t 3)) fullShare (dat.after 3 t)
      ∗ owns (c : Thread nD τ) (spec0_4.stage ((cfg0 a).slots t 4)) fullShare (dat.after 4 t)))) :
    BodyObligation dat (defs₀ (F := F)) Variants.none () Set.univ := fun t => by
  rw [bigSep_W0, bigSep_W0, defs₀_row a]
  exact triple_restated (h t) rfl .rfl fun _ =>
    sep_mono .rfl (sep_mono .rfl (sep_mono .rfl (sep_mono .rfl (sep_mono .rfl (sep_mono .rfl (leaves_of dat t))))))

theorem body_obligation (hO : Ok m) (c : Dev nD) : BodyObligation (dats (F := F) m hO 0 c) (defs₀ (F := F)) Variants.none () Set.univ :=
  obligation_of (adm m hO) c (dats m hO 0 c) (sound_body m hO c)

theorem inv_in (hO : Ok m) (c : Dev nD) : iprop(Pipeline.ΦA spec0 c ∗ Pipeline.ΦT pre0 (tbl m) c) ⊢ (inv m hO c 0 : sProp 𝕄) := by
  rw [PhiA0_eq, PhiT0_eq]
  unfold inv
  iintro ⟨⟨⟨⟨%d0, HS0⟩, ⟨%d1, HS1⟩, ⟨%d2, HS2⟩⟩, Hg⟩, ⟨HT0, HT1, HT2⟩⟩
  isplitl [HS0 HS1 HS2]
  · iexists d0, d1, d2
    isplitr
    · ipureintro; exact fun h => absurd rfl h
    isplitl [HS0]
    · iexact HS0
    isplitl [HS1]
    · iexact HS1
    iexact HS2
  isplitl [Hg]; · iexact Hg
  isplitl [HT0]; · iexact HT0
  isplitl [HT1]; · iexact HT1
  iexact HT2

theorem inv_out (hO : Ok m) (c : Dev nD) (n : ℕ) : (inv m hO c n : sProp 𝕄) ⊢ Pipeline.ΦA spec0 c := by
  rw [PhiA0_eq]
  unfold inv
  iintro ⟨⟨%y0, %y1, %y2, %hy, HS0, HS1, HS2⟩, Hg, -⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1, hostOps1_1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hO) (hpf := V_pre m) (hin := fun c => inv_in m hO c) (hout := fun c => inv_out m hO c _)

theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1, hostOps1_1])) :=
  (θ_run defs _ _).mono (fun _ h => h.1) (run_main_quiescent m ρ hO)

/-- The call runs, its arguments unchanged and every counter back at zero. -/
theorem frame_all (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(((h.1 c).2 main_arg0 (by decide : main_arg0 ∈ Pipeline.restRefs sig spec0)).trans (W_arg m hO (dats m hO) c main_arg0 (by simp))),
      (((h.1 c).2 main_arg1 (by decide : main_arg1 ∈ Pipeline.restRefs sig spec0)).trans (W_arg m hO (dats m hO) c main_arg1 (by simp))),
      (((h.1 c).2 main_arg2 (by decide : main_arg2 ∈ Pipeline.restRefs sig spec0)).trans (W_arg m hO (dats m hO) c main_arg2 (by simp))),
      (((h.1 c).2 main_arg3 (by decide : main_arg3 ∈ Pipeline.restRefs sig spec0)).trans (W_arg m hO (dats m hO) c main_arg3 (by simp))),
      (((h.1 c).2 main_arg4 (by decide : main_arg4 ∈ Pipeline.restRefs sig spec0)).trans (W_arg m hO (dats m hO) c main_arg4 (by simp)))⟩, h.2⟩) (run_main_quiescent m ρ hO)

end Cert.Experts

end
-- ==== Proof.ExpertsTables.lean ====
/- The experts' call: what its three tables hold, from the number of rows of each expert. -/
module

public import proofs.«01_k».proof.Proof.ExpertsSetup
public import proofs.«01_k».proof.Proof.Gen.Pre_counts_fit
public import Idealize.ShloMosaic.Lib.StableHlo.ReadAt
public import Idealize.ShloMosaic.Lib.StableHlo.Predicate
public import Idealize.ShloMosaic.Lib.Routing.OpsOne
public import Idealize.ShloMosaic.Lib.Routing.Words
public import Idealize.ShloMosaic.Lib.ReduceAll
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe

/-! ## The numbers of blocks -/

/-- The blocks of 512 rows that `n e` rows take. -/
def nBlk (n : ℕ → ℕ) (e : ℕ) : ℕ := (n e + 511) / 512

/-- The first step of expert `e`. -/
def first (n : ℕ → ℕ) (e : ℕ) : ℕ := ((List.range e).map (nBlk n)).sum

theorem first_zero (n : ℕ → ℕ) : first n 0 = 0 := rfl

theorem first_succ (n : ℕ → ℕ) (e : ℕ) : first n (e + 1) = first n e + nBlk n e := by
  unfold first
  rw [List.range_succ, List.map_append, List.sum_append]
  simp

theorem first_mono (n : ℕ → ℕ) {a b : ℕ} (h : a ≤ b) : first n a ≤ first n b := by
  induction b, h using Nat.le_induction with
  | base => exact le_rfl
  | succ b _ ih => rw [first_succ]; omega

theorem first_le (n : ℕ → ℕ) (e : ℕ) : 512 * first n e ≤ ((List.range e).map n).sum + 511 * e := by
  induction e with
  | zero => simp [first_zero]
  | succ e ih =>
    rw [first_succ, List.range_succ, List.map_append, List.sum_append]
    simp only [List.map_cons, List.map_nil, List.sum_cons, List.sum_nil]
    unfold nBlk
    omega

/-- A step in use is some expert's. -/
theorem step_owner (n : ℕ → ℕ) {k t : ℕ} (h : t < first n k) : ∃ e < k, first n e ≤ t ∧ t < first n (e + 1) := by
  induction k with
  | zero => exact absurd h (by simp [first_zero])
  | succ k ih =>
    by_cases hk : t < first n k
    · obtain ⟨e, he, h1⟩ := ih hk
      exact ⟨e, by omega, h1⟩
    · exact ⟨k, by omega, by omega, h⟩

/-- and of one expert only. -/
theorem owner_unique (n : ℕ → ℕ) {e e' t : ℕ} (h1 : first n e ≤ t) (h2 : t < first n (e + 1)) (h1' : first n e' ≤ t) (h2' : t < first n (e' + 1)) : e = e' := by
  rcases lt_trichotomy e e' with h | h | h
  · have := first_mono n (show e + 1 ≤ e' from h); omega
  · exact h
  · have := first_mono n (show e' + 1 ≤ e from h); omega

/-! ## The operations, as functions of the counts -/

def blocksOf (x : IVec S16 32) : IVec S16 32 :=
  Routing.pyDiv bcast_S_S16 (subi (addi x (broadcastInDim S16 ![] bcast_S_S16 (constantI S_ 32 512#32))) (broadcastInDim S16 ![] bcast_S_S16 (constantI S_ 32 1#32))) (constantI S_ 32 512#32)

def endsOf (b : IVec S16 32) : IVec S16 32 :=
  Host.reduceWindow IntOp.addi ![16] ![1] ![15] ![0] b (broadcastInDim S_ ![] bcast_S_S_ (constantI S_ 32 0#32)) reduceWindows_S16_S16_w16s1p15_0 h_S_

def ownOf (b e : IVec S16 32) : IVec S148x16 1 :=
  andi (cmpi .sge (broadcastInDim S148x16 ![0, 1] bcast_S148x1_S148x16_0_1 (broadcastInDim S148x1 ![0] bcast_S148_S148x1_0 (iotaInDim S148 32 0)))
      (broadcastInDim S148x16 ![0, 1] bcast_S1x16_S148x16_0_1 (broadcastInDim S1x16 ![1] bcast_S16_S1x16_1 (subi e b))))
    (cmpi .slt (broadcastInDim S148x16 ![0, 1] bcast_S148x1_S148x16_0_1 (broadcastInDim S148x1 ![0] bcast_S148_S148x1_0 (iotaInDim S148 32 0)))
      (broadcastInDim S148x16 ![0, 1] bcast_S1x16_S148x16_0_1 (broadcastInDim S1x16 ![1] bcast_S16_S1x16_1 e)))

def pickOf (b e v : IVec S16 32) : IVec S148 32 :=
  Host.reduce IntOp.addi (muli (extui 32 (ownOf b e) natLt_1_32) (broadcastInDim S148x16 ![0, 1] bcast_S1x16_S148x16_0_1 (broadcastInDim S1x16 ![1] bcast_S16_S1x16_1 v)))
    (constantI S_ 32 0#32) reducesTo_S148x16_S148_d1 h_S_

def lastOf (e : IVec S16 32) : IVec S1 32 := extractStridedSlice S1 ![15] e slices_S16_S1_15

def usedOf (e : IVec S16 32) : IVec S148 1 :=
  cmpi .slt (iotaInDim S148 32 0) (broadcastInDim S148 ![] bcast_S_S148 (shapeCast S_ (lastOf e) shapeCasts_S1_S_))

def expOf (b e : IVec S16 32) : IVec S148 32 :=
  select (usedOf e) (pickOf b e (iotaInDim S16 32 0)) (broadcastInDim S148 ![] bcast_S_S148 (constantI S_ 32 15#32))

def rowOf (b e : IVec S16 32) : IVec S148 32 :=
  select (usedOf e) (addi (muli (expOf b e) (broadcastInDim S148 ![] bcast_S_S148 (constantI S_ 32 66#32))) (subi (iotaInDim S148 32 0) (pickOf b e (subi e b))))
    (broadcastInDim S148 ![] bcast_S_S148 (constantI S_ 32 1056#32))

/-! ## Read at an index -/

section Words
variable {n : ℕ → ℕ} {x : IVec S16 32}

theorem blocks_at (hx : ∀ e : Fin 16, x (ix1 e) = BitVec.ofNat 32 (n e.val)) (hn : ∀ e < 16, n e ≤ 33792) (e : Fin 16) :
    blocksOf x (ix1 e) = BitVec.ofNat 32 (nBlk n e.val) := by
  have h := hn e.val e.isLt
  unfold blocksOf nBlk
  refine Routing.pyDiv_ap bcast_S_S16 _ _ (ix1 e) (a := n e.val + 511) (b := 512) ?_ rfl (by omega) (by omega) (by omega)
  show (x (ix1 e) + 512#32) - 1#32 = _
  rw [hx e]
  apply BitVec.eq_of_toNat_eq
  simp only [BitVec.toNat_sub, BitVec.toNat_add, BitVec.toNat_ofNat]
  omega

theorem ends_at (hx : ∀ e : Fin 16, x (ix1 e) = BitVec.ofNat 32 (n e.val)) (hn : ∀ e < 16, n e ≤ 33792) (e : Fin 16) :
    endsOf (blocksOf x) (ix1 e) = BitVec.ofNat 32 (first n (e.val + 1)) := by
  unfold endsOf first
  exact Routing.cumsum1 (N := 16) (Nm1 := 15) rfl (blocksOf x) (nBlk n) (blocks_at hx hn) _ rfl _ _ e

variable (hx : ∀ e : Fin 16, x (ix1 e) = BitVec.ofNat 32 (n e.val)) (hn : ∀ e < 16, n e ≤ 33792) (hs : first n 16 ≤ 147)
include hx hn hs

theorem starts_at (e : Fin 16) : subi (endsOf (blocksOf x)) (blocksOf x) (ix1 e) = BitVec.ofNat 32 (first n e.val) := by
  show endsOf (blocksOf x) (ix1 e) - blocksOf x (ix1 e) = _
  rw [ends_at hx hn, blocks_at hx hn]
  have h1 := first_succ n e.val
  have h2 := first_mono n (show e.val + 1 ≤ 16 by omega)
  apply BitVec.eq_of_toNat_eq
  simp only [BitVec.toNat_sub, BitVec.toNat_ofNat]
  omega

theorem own_at (t : Fin 148) (e : Fin 16) : ownOf (blocksOf x) (endsOf (blocksOf x)) (ix2 t e) = BitVec.ofBool (decide (first n e.val ≤ t.val ∧ t.val < first n (e.val + 1))) := by
  have hv : ∀ v : IVec S16 32, broadcastInDim S148x16 ![0, 1] bcast_S1x16_S148x16_0_1 (broadcastInDim S1x16 ![1] bcast_S16_S1x16_1 v) (ix2 t e) = v (ix1 e) := by
    intro v; pointwise
  have ht : broadcastInDim S148x16 ![0, 1] bcast_S148x1_S148x16_0_1 (broadcastInDim S148x1 ![0] bcast_S148_S148x1_0 (iotaInDim S148 32 0)) (ix2 t e) = BitVec.ofNat 32 t.val := by
    pointwise
  show IntOp.andi (IntOp.cmpi .sge (broadcastInDim S148x16 ![0, 1] bcast_S148x1_S148x16_0_1 (broadcastInDim S148x1 ![0] bcast_S148_S148x1_0 (iotaInDim S148 32 0)) (ix2 t e)) _)
    (IntOp.cmpi .slt (broadcastInDim S148x16 ![0, 1] bcast_S148x1_S148x16_0_1 (broadcastInDim S148x1 ![0] bcast_S148_S148x1_0 (iotaInDim S148 32 0)) (ix2 t e)) _) = _
  rw [ht, hv, hv, starts_at hx hn hs, ends_at hx hn]
  have h1 := first_mono n (show e.val ≤ 16 by omega)
  have h2 := first_mono n (show e.val + 1 ≤ 16 by omega)
  have e1 : IntOp.cmpi .sge (BitVec.ofNat 32 t.val) (BitVec.ofNat 32 (first n e.val)) = BitVec.ofBool (decide (first n e.val ≤ t.val)) := by
    rw [WordCmp.cmpi_sge_eq, StableHlo.Predicate.toInt_ofNat_small _ (by omega), StableHlo.Predicate.toInt_ofNat_small _ (by omega)]
    simp
  have e2 : IntOp.cmpi .slt (BitVec.ofNat 32 t.val) (BitVec.ofNat 32 (first n (e.val + 1))) = BitVec.ofBool (decide (t.val < first n (e.val + 1))) := by
    rw [WordCmp.cmpi_slt_eq, StableHlo.Predicate.toInt_ofNat_small _ (by omega), StableHlo.Predicate.toInt_ofNat_small _ (by omega)]
    simp
  rw [e1, e2, WordCmp.andi_ofBool, Bool.decide_and]

/-- The sum over the experts keeps the owner's entry. -/
theorem pick_at (v : IVec S16 32) (t : Fin 148) (e : Fin 16) (h1 : first n e.val ≤ t.val) (h2 : t.val < first n (e.val + 1)) :
    pickOf (blocksOf x) (endsOf (blocksOf x)) v (ix1 t) = v (ix1 e) := by
  have hv : ∀ e : Fin 16, broadcastInDim S148x16 ![0, 1] bcast_S1x16_S148x16_0_1 (broadcastInDim S1x16 ![1] bcast_S16_S1x16_1 v) (ix2 t e) = v (ix1 e) := by
    intro e; pointwise
  unfold pickOf
  rw [Host.reduce_eq_fold, Shape.ReducesTo.fold_fiber_r2_a1]
  have hsum : ∀ (f : Fin 16 → BitVec 32), (Finset.univ : Finset (Fin 16)).fold IntOp.addi 0#32 f = ∑ k, f k := fun f => rfl
  refine (hsum _).trans ?_
  rw [Finset.sum_eq_single e]
  · show (BitVec.setWidth 32 (ownOf (blocksOf x) (endsOf (blocksOf x)) (ix2 t e))) * (broadcastInDim S148x16 ![0, 1] bcast_S1x16_S148x16_0_1 (broadcastInDim S1x16 ![1] bcast_S16_S1x16_1 v) (ix2 t e)) = _
    rw [own_at hx hn hs, hv, decide_eq_true ⟨h1, h2⟩]
    exact BitVec.one_mul _
  · intro k _ hk
    show (BitVec.setWidth 32 (ownOf (blocksOf x) (endsOf (blocksOf x)) (ix2 t k))) * (broadcastInDim S148x16 ![0, 1] bcast_S1x16_S148x16_0_1 (broadcastInDim S1x16 ![1] bcast_S16_S1x16_1 v) (ix2 t k)) = _
    rw [own_at hx hn hs, decide_eq_false (fun h => hk (Fin.ext (owner_unique n h.1 h.2 h1 h2)))]
    exact BitVec.zero_mul
  · intro h; exact absurd (Finset.mem_univ e) h

theorem last_at : lastOf (endsOf (blocksOf x)) (ix1 0) = BitVec.ofNat 32 (first n 16) := by
  unfold lastOf
  have := ends_at hx hn (15 : Fin 16)
  refine Eq.trans ?_ this
  pointwise

theorem used_at (t : Fin 148) : usedOf (endsOf (blocksOf x)) (ix1 t) = BitVec.ofBool (decide (t.val < first n 16)) := by
  unfold usedOf
  have hl : broadcastInDim S148 ![] bcast_S_S148 (shapeCast S_ (lastOf (endsOf (blocksOf x))) shapeCasts_S1_S_) (ix1 t) = lastOf (endsOf (blocksOf x)) (ix1 0) := by
    generalize lastOf (endsOf (blocksOf x)) = w
    pointwise
  show IntOp.cmpi .slt (BitVec.ofNat 32 t.val) _ = _
  rw [hl, last_at hx hn hs, WordCmp.cmpi_slt_eq, StableHlo.Predicate.toInt_ofNat_small _ (by omega), StableHlo.Predicate.toInt_ofNat_small _ (by omega)]
  simp

theorem exp_used (t : Fin 148) (e : Fin 16) (h1 : first n e.val ≤ t.val) (h2 : t.val < first n (e.val + 1)) :
    expOf (blocksOf x) (endsOf (blocksOf x)) (ix1 t) = BitVec.ofNat 32 e.val := by
  have h3 := first_mono n (show e.val + 1 ≤ 16 by omega)
  show Scalar.select (usedOf (endsOf (blocksOf x)) (ix1 t)) (pickOf (blocksOf x) (endsOf (blocksOf x)) (iotaInDim S16 32 0) (ix1 t)) _ = _
  rw [used_at hx hn hs, pick_at hx hn hs _ t e h1 h2, decide_eq_true (by omega)]
  rfl

theorem exp_rest (t : Fin 148) (h : first n 16 ≤ t.val) : expOf (blocksOf x) (endsOf (blocksOf x)) (ix1 t) = 15#32 := by
  show Scalar.select (usedOf (endsOf (blocksOf x)) (ix1 t)) _ _ = _
  rw [used_at hx hn hs, decide_eq_false (by omega)]
  rfl

theorem row_used (t : Fin 148) (e : Fin 16) (h1 : first n e.val ≤ t.val) (h2 : t.val < first n (e.val + 1)) :
    rowOf (blocksOf x) (endsOf (blocksOf x)) (ix1 t) = BitVec.ofNat 32 (e.val * 66 + (t.val - first n e.val)) := by
  have h3 := first_mono n (show e.val + 1 ≤ 16 by omega)
  show Scalar.select (usedOf (endsOf (blocksOf x)) (ix1 t)) (expOf (blocksOf x) (endsOf (blocksOf x)) (ix1 t) * 66#32
    + (BitVec.ofNat 32 t.val - pickOf (blocksOf x) (endsOf (blocksOf x)) (subi (endsOf (blocksOf x)) (blocksOf x)) (ix1 t))) _ = _
  rw [used_at hx hn hs, exp_used hx hn hs t e h1 h2, pick_at hx hn hs _ t e h1 h2, starts_at hx hn hs, decide_eq_true (by omega)]
  show BitVec.ofNat 32 e.val * 66#32 + (BitVec.ofNat 32 t.val - BitVec.ofNat 32 (first n e.val)) = _
  apply BitVec.eq_of_toNat_eq
  simp only [BitVec.toNat_sub, BitVec.toNat_add, BitVec.toNat_mul, BitVec.toNat_ofNat]
  omega

theorem row_rest (t : Fin 148) (h : first n 16 ≤ t.val) : rowOf (blocksOf x) (endsOf (blocksOf x)) (ix1 t) = 1056#32 := by
  show Scalar.select (usedOf (endsOf (blocksOf x)) (ix1 t)) _ _ = _
  rw [used_at hx hn hs, decide_eq_false (by omega)]
  rfl

end Words

/-! ## The tables of the call -/

section Read
variable {F : FTy → Type} [FloatOps F] (m : (ℓ : Loc nD τ sig) → Buf (Elt F) ℓ) (c : Dev nD)

/-- The counts. -/
abbrev cntA : IVec S16 32 := m ((c : Thread nD τ).loc main_arg1)

set_option maxHeartbeats 4000000 in
theorem V_v39 : V m c main_v39 = expOf (blocksOf (cntA m c)) (endsOf (blocksOf (cntA m c))) := by
  unfold V
  after_reads_simp
  all_goals try simp -implicitDefEqProofs only [StableHlo.TRef.toBuf, StableHlo.TRef.ofBuf, cast_cast, cast_eq]
  all_goals clean_types
  rfl

set_option maxHeartbeats 4000000 in
theorem V_v43 : V m c main_v43 = rowOf (blocksOf (cntA m c)) (endsOf (blocksOf (cntA m c))) := by
  unfold V
  after_reads_simp
  all_goals try simp -implicitDefEqProofs only [StableHlo.TRef.toBuf, StableHlo.TRef.ofBuf, cast_cast, cast_eq]
  all_goals clean_types
  rfl

set_option maxHeartbeats 4000000 in
theorem V_v44 : V m c main_v44 = lastOf (endsOf (blocksOf (cntA m c))) := by
  unfold V
  after_reads_simp
  all_goals try simp -implicitDefEqProofs only [StableHlo.TRef.toBuf, StableHlo.TRef.ofBuf, cast_cast, cast_eq]
  all_goals clean_types
  rfl

end Read

end Cert.Experts

end
-- ==== Proof.ExpertsOk.lean ====
/- The experts' call: what the precondition says of the counts, and that every block the tables name lies in its array. -/
module

public import proofs.«01_k».proof.Proof.ExpertsTables

@[expose] public section

set_option maxRecDepth 16384

noncomputable section

namespace Cert.Experts

open Cert.Kernel2Ideal Cert.Kernel2Ideal.Gen
open Idealize.ShloMosaic Idealize.ShloMosaic.TcCoe

/-- The counts as naturals. -/
def natOf (x : IVec S16 32) (e : ℕ) : ℕ := if h : e < 16 then (x (ix1 ⟨e, h⟩)).toNat else 0

theorem natOf_at (x : IVec S16 32) (e : Fin 16) : x (ix1 e) = BitVec.ofNat 32 (natOf x e.val) := by
  unfold natOf
  rw [dif_pos e.isLt, BitVec.ofNat_toNat, BitVec.setWidth_eq]

/-- What the precondition says: every count fits its list, and the blocks fit the steps. -/
def Fits (x : IVec S16 32) : Prop := (∀ e < 16, natOf x e ≤ 33792) ∧ first (natOf x) 16 ≤ 147

instance : Subsingleton S_.Idx := ⟨fun a b => funext fun k => k.elim0⟩

theorem sum_le (f : ℕ → ℕ) (b : ℕ) (k : ℕ) (h : ∀ e < k, f e ≤ b) : ((List.range k).map f).sum ≤ k * b := by
  induction k with
  | zero => simp
  | succ k ih =>
    have h1 := ih fun e he => h e (by omega)
    have h2 := h k (by omega)
    rw [List.range_succ, List.map_append, List.sum_append]
    simp only [List.map_cons, List.map_nil, List.sum_cons, List.sum_nil]
    rw [Nat.succ_mul]
    omega

theorem fits_of_pre {F : FTy → Type} [FloatOps F] (a0 : FVec F S16x33792x1024 .f32) (x : IVec S16 32) (a2 a3 : FVec F S16x1024x768 .f32) (a4 : FVec F S16x768x1024 .f32)
    (h : Cert.Pre_counts_fit.fn (F := F) a0 x a2 a3 a4 = fun _ => 1#1) : Fits x := by
  have h0 := congrFun h (Shape.Idx.first h_S_)
  dsimp only [Cert.Pre_counts_fit.fn] at h0
  obtain ⟨h1, hl⟩ := IntOp.andi_eq_one.1 h0
  clear h h0
  have hb : ∀ e < 16, natOf x e ≤ 33792 := by
    intro e he
    have key := Host.reduce_andi_all _ _ _ _ _ h1 (ix1 ⟨e, he⟩)
    obtain ⟨k1, k2⟩ := IntOp.andi_eq_one.1 key
    have k1' : IntOp.cmpi .sge (x (ix1 ⟨e, he⟩)) 0#32 = 1#1 := k1
    have k2' : IntOp.cmpi .sle (x (ix1 ⟨e, he⟩)) 33792#32 = 1#1 := k2
    unfold natOf
    rw [dif_pos he]
    generalize x (ix1 ⟨e, he⟩) = w at k1' k2'
    rw [WordCmp.cmpi_sge_eq] at k1'
    rw [WordCmp.cmpi_sle_eq] at k2'
    simp only [WordCmp.ofBool_decide_eq_one_iff] at k1' k2'
    have e1 : (0#32 : BitVec 32).toInt = 0 := by decide
    have e2 : (33792#32 : BitVec 32).toInt = 33792 := by decide
    rw [e1] at k1'
    rw [e2] at k2'
    rw [BitVec.toInt_eq_toNat_cond] at k1' k2'
    split at k1' <;> omega
  refine ⟨hb, ?_⟩
  have hs := sum_le (natOf x) 33792 16 hb
  have hr := Routing.reduce_sum (N := 16) x (natOf x) (natOf_at x) Cert.Pre_counts_fit.Facts.reducesTo_S16_S_d0 Cert.Pre_counts_fit.Facts.h_S_
  have hl' : IntOp.cmpi .sle (Host.reduce IntOp.addi x (constantI Cert.Pre_counts_fit.S_ 32 0#32) Cert.Pre_counts_fit.Facts.reducesTo_S16_S_d0 Cert.Pre_counts_fit.Facts.h_S_ ix0) 67584#32 = 1#1 := by
    refine Eq.trans ?_ hl
    exact congrArg (fun j => IntOp.cmpi .sle (Host.reduce IntOp.addi x (constantI Cert.Pre_counts_fit.S_ 32 0#32) Cert.Pre_counts_fit.Facts.reducesTo_S16_S_d0 Cert.Pre_counts_fit.Facts.h_S_ j) 67584#32) (Subsingleton.elim _ _)
  have hle : ((List.range 16).map (natOf x)).sum ≤ 67584 := by
    have h3 := hl'
    rw [show Host.reduce IntOp.addi x (constantI Cert.Pre_counts_fit.S_ 32 0#32) Cert.Pre_counts_fit.Facts.reducesTo_S16_S_d0 Cert.Pre_counts_fit.Facts.h_S_ ix0 = _ from hr, WordCmp.cmpi_sle_eq] at h3
    simp only [WordCmp.ofBool_decide_eq_one_iff] at h3
    rw [StableHlo.Predicate.toInt_ofNat_small _ (by omega)] at h3
    have e2 : (67584#32 : BitVec 32).toInt = 67584 := by decide
    rw [e2] at h3
    omega
  have := first_le (natOf x) 16
  omega

section
variable {F : FTy → Type} [FloatOps F] (m : (ℓ : Loc nD τ sig) → Buf (Elt F) ℓ)

/-- The three tables, at a step. -/
def expT (t : Fin 148) : BitVec 32 := V m (0 : Dev nD) main_v39 (ix1 t)
def rowT (t : Fin 148) : BitVec 32 := V m (0 : Dev nD) main_v43 (ix1 t)

/-- A grid point's step. -/
def stepOf (i : grid0.Coords) : Fin 148 := i 0

theorem off_emb (i : grid0.Coords) : (Rect.unit (s := S148) (k0_off1 i) S1.size (k0_off1_inb i)).emb (Shape.Idx.first (by show 0 < S1.numel; rw [numel1_S1]; exact Nat.one_pos)) = ix1 (stepOf i) := by
  funext a
  match a with
  | ⟨0, _⟩ =>
    apply Fin.ext
    show (BitVec.ofNat 32 (i 0).val).toNat + 1 * 0 = (i 0).val
    have : (i 0).val < 148 := (i 0).isLt
    simp only [BitVec.toNat_ofNat]
    omega

theorem exp_at (i : grid0.Coords) : (tbl m).at 0 (Rect.unit (s := S148) ![(BitVec.ofNat 32 (i 0).val : BitVec 32).toNat] S1.size (k0_off1_inb i)) numel1_S1 = expT m (stepOf i) :=
  congrArg (V m (0 : Dev nD) main_v39) (off_emb i)

theorem row_at (i : grid0.Coords) : (tbl m).at 1 (Rect.unit (s := S148) ![(BitVec.ofNat 32 (i 0).val : BitVec 32).toNat] S1.size (k0_off1_inb i)) numel1_S1 = rowT m (stepOf i) :=
  congrArg (V m (0 : Dev nD) main_v43) (off_emb i)

theorem tr0 (i : grid0.Coords) : cc0_transform_0 k0_off1_inb numel1_S1 (tbl m) i = ![(rowT m (stepOf i)).toNat, 0] := by
  rw [← row_at]; rfl
theorem tr1 (i : grid0.Coords) : cc0_transform_1 k0_off1_inb numel1_S1 (tbl m) i = ![0, (expT m (stepOf i)).toNat, 0, 0] := by
  rw [← exp_at]; rfl
theorem tr2 (i : grid0.Coords) : cc0_transform_2 k0_off1_inb numel1_S1 (tbl m) i = ![0, (expT m (stepOf i)).toNat, 0, 0] := by
  rw [← exp_at]; rfl
theorem tr3 (i : grid0.Coords) : cc0_transform_3 k0_off1_inb numel1_S1 (tbl m) i = ![0, (expT m (stepOf i)).toNat, 0, 0] := by
  rw [← exp_at]; rfl
theorem tr4 (i : grid0.Coords) : cc0_transform_4 k0_off1_inb numel1_S1 (tbl m) i = ![(rowT m (stepOf i)).toNat, 0] := by
  rw [← row_at]; rfl

/-- The counts of the call. -/
abbrev cn : ℕ → ℕ := natOf (cntA m (0 : Dev nD))

variable (hf : Fits (cntA m (0 : Dev nD)))
include hf

theorem expT_used (t : Fin 148) (e : Fin 16) (h1 : first (cn m) e.val ≤ t.val) (h2 : t.val < first (cn m) (e.val + 1)) : expT m t = BitVec.ofNat 32 e.val := by
  unfold expT
  rw [V_v39]
  exact exp_used (natOf_at _) hf.1 hf.2 t e h1 h2
theorem expT_rest (t : Fin 148) (h : first (cn m) 16 ≤ t.val) : expT m t = 15#32 := by
  unfold expT
  rw [V_v39]
  exact exp_rest (natOf_at _) hf.1 hf.2 t h
theorem rowT_used (t : Fin 148) (e : Fin 16) (h1 : first (cn m) e.val ≤ t.val) (h2 : t.val < first (cn m) (e.val + 1)) : rowT m t = BitVec.ofNat 32 (e.val * 66 + (t.val - first (cn m) e.val)) := by
  unfold rowT
  rw [V_v43]
  exact row_used (natOf_at _) hf.1 hf.2 t e h1 h2
theorem rowT_rest (t : Fin 148) (h : first (cn m) 16 ≤ t.val) : rowT m t = 1056#32 := by
  unfold rowT
  rw [V_v43]
  exact row_rest (natOf_at _) hf.1 hf.2 t h
theorem last_tbl : V m (0 : Dev nD) main_v44 (ix1 0) = BitVec.ofNat 32 (first (cn m) 16) := by
  rw [V_v44]
  exact last_at (natOf_at _) hf.1 hf.2

theorem expT_lt (t : Fin 148) : (expT m t).toNat < 16 := by
  by_cases h : t.val < first (cn m) 16
  · obtain ⟨e, he, h1, h2⟩ := step_owner (cn m) h
    rw [expT_used m hf t ⟨e, he⟩ h1 h2, BitVec.toNat_ofNat]
    show e % 2 ^ 32 < 16
    omega
  · rw [expT_rest m hf t (by omega)]
    decide

theorem blk_le (e : ℕ) (he : e < 16) : nBlk (cn m) e ≤ 66 := by
  have := hf.1 e he
  unfold nBlk
  show (natOf (cntA m (0 : Dev nD)) e + 511) / 512 ≤ 66
  omega

theorem rowT_lt (t : Fin 148) : (rowT m t).toNat < 1057 := by
  by_cases h : t.val < first (cn m) 16
  · obtain ⟨e, he, h1, h2⟩ := step_owner (cn m) h
    have h3 := blk_le m hf e he
    have h4 := first_succ (cn m) e
    rw [rowT_used m hf t ⟨e, he⟩ h1 h2, BitVec.toNat_ofNat]
    have h5 : e * 66 + (t.val - first (cn m) e) < 1057 := by
      have : t.val - first (cn m) e < 66 := by
        have h2' : t.val < first (cn m) (e + 1) := h2
        have h1' : first (cn m) e ≤ t.val := h1
        omega
      omega
    exact Nat.lt_of_le_of_lt (Nat.mod_le _ _) h5
  · rw [rowT_rest m hf t (by omega)]
    decide

/-- Every block lies in its array. -/
theorem ok_of_fits : Ok m := by
  refine ⟨fun i => ⟨?_, .inl rfl⟩, fun i => ⟨?_, .inl rfl⟩, fun i => ⟨?_, .inl rfl⟩, fun i => ⟨?_, .inl rfl⟩, fun i => ⟨?_, .inl rfl⟩⟩
  · rw [tr0]
    have := rowT_lt m hf (stepOf i)
    intro a
    match a with
    | ⟨0, _⟩ => show ((rowT m (stepOf i)).toNat + 1) * 4096 ≤ 4329472; omega
    | ⟨1, _⟩ => show (0 + 1) * 128 ≤ 128; omega
  · rw [tr1]
    have := expT_lt m hf (stepOf i)
    intro a
    match a with
    | ⟨0, _⟩ => show (0 + 1) * 1 ≤ 1; omega
    | ⟨1, _⟩ => show ((expT m (stepOf i)).toNat + 1) * 1 ≤ 16; omega
    | ⟨2, _⟩ => show (0 + 1) * 1024 ≤ 1024; omega
    | ⟨3, _⟩ => show (0 + 1) * 768 ≤ 768; omega
  · rw [tr2]
    have := expT_lt m hf (stepOf i)
    intro a
    match a with
    | ⟨0, _⟩ => show (0 + 1) * 1 ≤ 1; omega
    | ⟨1, _⟩ => show ((expT m (stepOf i)).toNat + 1) * 1 ≤ 16; omega
    | ⟨2, _⟩ => show (0 + 1) * 1024 ≤ 1024; omega
    | ⟨3, _⟩ => show (0 + 1) * 768 ≤ 768; omega
  · rw [tr3]
    have := expT_lt m hf (stepOf i)
    intro a
    match a with
    | ⟨0, _⟩ => show (0 + 1) * 1 ≤ 1; omega
    | ⟨1, _⟩ => show ((expT m (stepOf i)).toNat + 1) * 1 ≤ 16; omega
    | ⟨2, _⟩ => show (0 + 1) * 768 ≤ 768; omega
    | ⟨3, _⟩ => show (0 + 1) * 1024 ≤ 1024; omega
  · rw [tr4]
    have := rowT_lt m hf (stepOf i)
    intro a
    match a with
    | ⟨0, _⟩ => show ((rowT m (stepOf i)).toNat + 1) * 4096 ≤ 4329472; omega
    | ⟨1, _⟩ => show (0 + 1) * 128 ≤ 128; omega

end

end Cert.Experts

end
-- ==== Proof.ExpertsFrames.lean ====
/- The frames of the experts' kernel over the extended reals. -/
module

public import proofs.«01_k».proof.Proof.ExpertsLaunch
public import proofs.«01_k».proof.Proof.ExpertsOk
public import proofs.«01_k».proof.Defs

@[expose] public section

set_option maxRecDepth 16384

noncomputable section

namespace Cert.Experts

open Cert.Kernel2Ideal Cert.Kernel2Ideal.Gen
open Idealize.ShloMosaic

theorem frame_kernel2Ideal : Cert.quiescent_Kernel2Ideal := fun m ρ hpre =>
  frame_all m ρ (ok_of_fits m (fits_of_pre _ _ _ _ _ (hpre 0)))

end Cert.Experts

end
-- ==== Proof.BitsFrames.lean ====
/- The frames of the experts' kernel over the floating-point values. -/
module

public import proofs.«01_k».proof.Proof.BitsLaunch
public import proofs.«01_k».proof.Proof.BitsOk
public import proofs.«01_k».proof.Defs

@[expose] public section

set_option maxRecDepth 16384

noncomputable section

namespace Cert.ExpertsBits

open Cert.Kernel2 Cert.Kernel2.Gen
open Idealize.ShloMosaic

theorem frame_kernel2 : Cert.quiescent_Kernel2 := fun m ρ hpre =>
  frame_all (F := Bits) m ρ (ok_of_fits m (fits_of_pre _ _ _ _ _ (hpre 0)))

end Cert.ExpertsBits

end
-- ==== Proof.ExpertsHeld.lean ====
/- The blocks of the experts' call at a step, and the weights it holds there. -/
module

public import proofs.«01_k».proof.Proof.ExpertsBody
public import proofs.«01_k».proof.Proof.ExpertsOk
public import Idealize.ShloMosaic.Lib.Pipeline.Value
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe

variable {F : FTy → Type} [FloatOps F]

theorem index_0 (a : (pcfg0 (F := F)).Adm) (t : Fin (cfg0 a).N) : ((cfg0 a).win 0).index t = cc0_transform_0 k0_off1_inb numel1_S1 a.1 (grid0.coords t) := rfl
theorem index_1 (a : (pcfg0 (F := F)).Adm) (t : Fin (cfg0 a).N) : ((cfg0 a).win 1).index t = cc0_transform_1 k0_off1_inb numel1_S1 a.1 (grid0.coords t) := rfl
theorem index_2 (a : (pcfg0 (F := F)).Adm) (t : Fin (cfg0 a).N) : ((cfg0 a).win 2).index t = cc0_transform_2 k0_off1_inb numel1_S1 a.1 (grid0.coords t) := rfl
theorem index_3 (a : (pcfg0 (F := F)).Adm) (t : Fin (cfg0 a).N) : ((cfg0 a).win 3).index t = cc0_transform_3 k0_off1_inb numel1_S1 a.1 (grid0.coords t) := rfl
theorem index_4 (a : (pcfg0 (F := F)).Adm) (t : Fin (cfg0 a).N) : ((cfg0 a).win 4).index t = cc0_transform_4 k0_off1_inb numel1_S1 a.1 (grid0.coords t) := rfl

/-- Windows over an array: a block's element lies at the block's offset plus its own coordinate. -/
theorem emb_0 (a : (pcfg0 (F := F)).Adm) (t : Fin (cfg0 a).N) (f : S4329472x128.Idx → Elt F .f32) (y : S4096x128.Idx) (R z : ℕ)
    (h : ((cfg0 a).win 0).index t = ![R, z]) (i : S4329472x128.Idx) (h0 : (i 0).val = R * 4096 + (y 0).val) (h1 : (i 1).val = z * 128 + (y 1).val) :
    ((((cfg0 a).win 0).blk t).view.read (Elt F) f : Vec F S4096x128 .f32) y = f i := by
  show f ((((cfg0 a).win 0).rect t).emb y) = f i
  refine congrArg f ?_
  funext k
  apply Fin.ext
  refine (Pipeline.Window.rect_emb_val ((cfg0 a).win 0) t y k).trans ?_
  rw [h]
  match k with
  | ⟨0, _⟩ => exact h0.symm
  | ⟨1, _⟩ => exact h1.symm

theorem emb_1 (a : (pcfg0 (F := F)).Adm) (t : Fin (cfg0 a).N) (f : S1x16x1024x768.Idx → Elt F .f32) (y : S1x1x1024x768.Idx) (e : ℕ)
    (h : ((cfg0 a).win 1).index t = ![0, e, 0, 0]) (i : S1x16x1024x768.Idx) (h1 : (i 1).val = e) (h2 : (i 2).val = (y 2).val) (h3 : (i 3).val = (y 3).val) :
    ((((cfg0 a).win 1).blk t).view.read (Elt F) f : Vec F S1x1x1024x768 .f32) y = f i := by
  show f ((((cfg0 a).win 1).rect t).emb y) = f i
  refine congrArg f ?_
  funext k
  apply Fin.ext
  refine (Pipeline.Window.rect_emb_val ((cfg0 a).win 1) t y k).trans ?_
  rw [h]
  match k with
  | ⟨0, _⟩ =>
    show 0 * 1 + (y 0).val = (i 0).val
    have a1 : (y 0).val < 1 := (y 0).isLt
    have a2 : (i 0).val < 1 := (i 0).isLt
    omega
  | ⟨1, _⟩ =>
    show e * 1 + (y 1).val = (i 1).val
    have a1 : (y 1).val < 1 := (y 1).isLt
    omega
  | ⟨2, _⟩ => show 0 * 1024 + (y 2).val = (i 2).val; omega
  | ⟨3, _⟩ => show 0 * 768 + (y 3).val = (i 3).val; omega

theorem emb_2 (a : (pcfg0 (F := F)).Adm) (t : Fin (cfg0 a).N) (f : S1x16x1024x768.Idx → Elt F .f32) (y : S1x1x1024x768.Idx) (e : ℕ)
    (h : ((cfg0 a).win 2).index t = ![0, e, 0, 0]) (i : S1x16x1024x768.Idx) (h1 : (i 1).val = e) (h2 : (i 2).val = (y 2).val) (h3 : (i 3).val = (y 3).val) :
    ((((cfg0 a).win 2).blk t).view.read (Elt F) f : Vec F S1x1x1024x768 .f32) y = f i := by
  show f ((((cfg0 a).win 2).rect t).emb y) = f i
  refine congrArg f ?_
  funext k
  apply Fin.ext
  refine (Pipeline.Window.rect_emb_val ((cfg0 a).win 2) t y k).trans ?_
  rw [h]
  match k with
  | ⟨0, _⟩ =>
    show 0 * 1 + (y 0).val = (i 0).val
    have a1 : (y 0).val < 1 := (y 0).isLt
    have a2 : (i 0).val < 1 := (i 0).isLt
    omega
  | ⟨1, _⟩ =>
    show e * 1 + (y 1).val = (i 1).val
    have a1 : (y 1).val < 1 := (y 1).isLt
    omega
  | ⟨2, _⟩ => show 0 * 1024 + (y 2).val = (i 2).val; omega
  | ⟨3, _⟩ => show 0 * 768 + (y 3).val = (i 3).val; omega

theorem emb_3 (a : (pcfg0 (F := F)).Adm) (t : Fin (cfg0 a).N) (f : S1x16x768x1024.Idx → Elt F .f32) (y : S1x1x768x1024.Idx) (e : ℕ)
    (h : ((cfg0 a).win 3).index t = ![0, e, 0, 0]) (i : S1x16x768x1024.Idx) (h1 : (i 1).val = e) (h2 : (i 2).val = (y 2).val) (h3 : (i 3).val = (y 3).val) :
    ((((cfg0 a).win 3).blk t).view.read (Elt F) f : Vec F S1x1x768x1024 .f32) y = f i := by
  show f ((((cfg0 a).win 3).rect t).emb y) = f i
  refine congrArg f ?_
  funext k
  apply Fin.ext
  refine (Pipeline.Window.rect_emb_val ((cfg0 a).win 3) t y k).trans ?_
  rw [h]
  match k with
  | ⟨0, _⟩ =>
    show 0 * 1 + (y 0).val = (i 0).val
    have a1 : (y 0).val < 1 := (y 0).isLt
    have a2 : (i 0).val < 1 := (i 0).isLt
    omega
  | ⟨1, _⟩ =>
    show e * 1 + (y 1).val = (i 1).val
    have a1 : (y 1).val < 1 := (y 1).isLt
    omega
  | ⟨2, _⟩ => show 0 * 768 + (y 2).val = (i 2).val; omega
  | ⟨3, _⟩ => show 0 * 1024 + (y 3).val = (i 3).val; omega

theorem read_1_congr (a : (pcfg0 (F := F)).Adm) (t t' : Fin (cfg0 a).N) (f : S1x16x1024x768.Idx → Elt F .f32) (e : ℕ) (he : e < 16)
    (h : ((cfg0 a).win 1).index t = ![0, e, 0, 0]) (h' : ((cfg0 a).win 1).index t' = ![0, e, 0, 0]) :
    ((((cfg0 a).win 1).blk t).view.read (Elt F) f : Vec F S1x1x1024x768 .f32) = (((cfg0 a).win 1).blk t').view.read (Elt F) f :=
  funext fun y : S1x1x1024x768.Idx => (emb_1 a t f y e h (ix4 0 ⟨e, he⟩ (y 2) (y 3)) rfl rfl rfl).trans (emb_1 a t' f y e h' (ix4 0 ⟨e, he⟩ (y 2) (y 3)) rfl rfl rfl).symm

theorem read_2_congr (a : (pcfg0 (F := F)).Adm) (t t' : Fin (cfg0 a).N) (f : S1x16x1024x768.Idx → Elt F .f32) (e : ℕ) (he : e < 16)
    (h : ((cfg0 a).win 2).index t = ![0, e, 0, 0]) (h' : ((cfg0 a).win 2).index t' = ![0, e, 0, 0]) :
    ((((cfg0 a).win 2).blk t).view.read (Elt F) f : Vec F S1x1x1024x768 .f32) = (((cfg0 a).win 2).blk t').view.read (Elt F) f :=
  funext fun y : S1x1x1024x768.Idx => (emb_2 a t f y e h (ix4 0 ⟨e, he⟩ (y 2) (y 3)) rfl rfl rfl).trans (emb_2 a t' f y e h' (ix4 0 ⟨e, he⟩ (y 2) (y 3)) rfl rfl rfl).symm

theorem read_3_congr (a : (pcfg0 (F := F)).Adm) (t t' : Fin (cfg0 a).N) (f : S1x16x768x1024.Idx → Elt F .f32) (e : ℕ) (he : e < 16)
    (h : ((cfg0 a).win 3).index t = ![0, e, 0, 0]) (h' : ((cfg0 a).win 3).index t' = ![0, e, 0, 0]) :
    ((((cfg0 a).win 3).blk t).view.read (Elt F) f : Vec F S1x1x768x1024 .f32) = (((cfg0 a).win 3).blk t').view.read (Elt F) f :=
  funext fun y : S1x1x768x1024.Idx => (emb_3 a t f y e h (ix4 0 ⟨e, he⟩ (y 2) (y 3)) rfl rfl rfl).trans (emb_3 a t' f y e h' (ix4 0 ⟨e, he⟩ (y 2) (y 3)) rfl rfl rfl).symm

section
variable (m : (ℓ : Loc nD τ sig) → Buf (Elt F) ℓ)

/-- A grid point as a step. -/
abbrev st (t : Fin grid0.N) : Fin 148 := ⟨t.val, by have := t.isLt; have e : grid0.N = 148 := N_0; omega⟩

theorem stepOf_coords (t : Fin grid0.N) : stepOf (grid0.coords t) = st t := Fin.ext (coords_val t)

theorem at_0 (hO : Ok m) (t : Fin grid0.N) : ((cfgM m hO).win 0).index t = ![(rowT m (st t)).toNat, 0] := by
  rw [← stepOf_coords, ← tr0]; exact index_0 _ _
theorem at_1 (hO : Ok m) (t : Fin grid0.N) : ((cfgM m hO).win 1).index t = ![0, (expT m (st t)).toNat, 0, 0] := by
  rw [← stepOf_coords, ← tr1]; exact index_1 _ _
theorem at_2 (hO : Ok m) (t : Fin grid0.N) : ((cfgM m hO).win 2).index t = ![0, (expT m (st t)).toNat, 0, 0] := by
  rw [← stepOf_coords, ← tr2]; exact index_2 _ _
theorem at_3 (hO : Ok m) (t : Fin grid0.N) : ((cfgM m hO).win 3).index t = ![0, (expT m (st t)).toNat, 0, 0] := by
  rw [← stepOf_coords, ← tr3]; exact index_3 _ _
theorem at_4 (hO : Ok m) (t : Fin grid0.N) : ((cfgM m hO).win 4).index t = ![(rowT m (st t)).toNat, 0] := by
  rw [← stepOf_coords, ← tr4]; exact index_4 _ _

theorem blk_0 (hO : Ok m) (t : Fin grid0.N) (y : S4096x128.Idx) (i : S4329472x128.Idx) (h0 : (i 0).val = (rowT m (st t)).toNat * 4096 + (y 0).val) (h1 : (i 1).val = (y 1).val) :
    (iblk m hO 0 0 t : Vec F S4096x128 .f32) y = V m 0 main_v2 i :=
  emb_0 (adm m hO) t (V m 0 main_v2) y _ 0 (at_0 m hO t) i h0 (by omega)
theorem blk_1 (hO : Ok m) (t : Fin grid0.N) (y : S1x1x1024x768.Idx) (i : S1x16x1024x768.Idx) (h1 : (i 1).val = (expT m (st t)).toNat) (h2 : (i 2).val = (y 2).val) (h3 : (i 3).val = (y 3).val) :
    (iblk m hO 0 1 t : Vec F S1x1x1024x768 .f32) y = V m 0 main_v45 i :=
  emb_1 (adm m hO) t (V m 0 main_v45) y _ (at_1 m hO t) i h1 h2 h3
theorem blk_2 (hO : Ok m) (t : Fin grid0.N) (y : S1x1x1024x768.Idx) (i : S1x16x1024x768.Idx) (h1 : (i 1).val = (expT m (st t)).toNat) (h2 : (i 2).val = (y 2).val) (h3 : (i 3).val = (y 3).val) :
    (iblk m hO 0 2 t : Vec F S1x1x1024x768 .f32) y = V m 0 main_v46 i :=
  emb_2 (adm m hO) t (V m 0 main_v46) y _ (at_2 m hO t) i h1 h2 h3
theorem blk_3 (hO : Ok m) (t : Fin grid0.N) (y : S1x1x768x1024.Idx) (i : S1x16x768x1024.Idx) (h1 : (i 1).val = (expT m (st t)).toNat) (h2 : (i 2).val = (y 2).val) (h3 : (i 3).val = (y 3).val) :
    (iblk m hO 0 3 t : Vec F S1x1x768x1024 .f32) y = V m 0 main_v47 i :=
  emb_3 (adm m hO) t (V m 0 main_v47) y _ (at_3 m hO t) i h1 h2 h3

/-- The expert that a step reads, and the one of the step before. -/
theorem now_eq (t : Fin grid0.N) : eNow (0 : Dev nD) (grid0.coords t) (tbl m 0) = expT m (st t) := by
  rw [← stepOf_coords]
  exact congrArg (V m (0 : Dev nD) main_v39) (off_emb (grid0.coords t))

theorem off2_val : ∀ t : Fin grid0.N, k0_off2 (grid0.coords t) 0 = t.val - 1 := by decide +kernel

theorem off2_emb (t : Fin grid0.N) (s : Fin 148) (h : s.val = t.val - 1) :
    (Rect.unit (s := S148) (k0_off2 (grid0.coords t)) S1.size (k0_off2_inb (grid0.coords t))).emb (Shape.Idx.first (by show 0 < S1.numel; rw [numel1_S1]; exact Nat.one_pos)) = ix1 s := by
  funext a
  match a with
  | ⟨0, _⟩ =>
    apply Fin.ext
    show k0_off2 (grid0.coords t) 0 + 1 * 0 = s.val
    rw [off2_val]
    omega

theorem prev_eq (t : Fin grid0.N) (s : Fin 148) (h : s.val = t.val - 1) : ePrev (0 : Dev nD) (grid0.coords t) (tbl m 0) = expT m s :=
  congrArg (V m (0 : Dev nD) main_v39) (off2_emb t s h)

/-- Without a reload the expert is the one of the step before. -/
theorem same_of_held (c : Dev nD) (i : grid0.Coords) (xt0 : TbBuf0 (F := F) c tbM0_0) (h : ¬ reload c i xt0) : eNow c i xt0 = ePrev c i xt0 := by
  by_contra hne
  refine h ?_
  have e : Scalar.cmpi .ne (eNow c i xt0) (ePrev c i xt0) = 1#1 := by
    show BitVec.ofBool (eNow c i xt0 != ePrev c i xt0) = 1#1
    rw [bne_iff_ne.2 hne]
    rfl
  unfold reload
  rw [e]
  generalize Scalar.cmpi .eq (BitVec.ofNat 32 (i 0).val) 0#32 = b
  revert b
  decide

variable (hf : Fits (cntA m (0 : Dev nD)))
include hf

theorem blk_1_congr (hO : Ok m) (t t' : Fin grid0.N) (h : expT m (st t) = expT m (st t')) : (iblk m hO 0 1 t : Vec F S1x1x1024x768 .f32) = iblk m hO 0 1 t' :=
  read_1_congr (adm m hO) t t' (V m 0 main_v45) _ (expT_lt m hf (st t)) (at_1 m hO t) ((at_1 m hO t').trans (by rw [h]))
theorem blk_2_congr (hO : Ok m) (t t' : Fin grid0.N) (h : expT m (st t) = expT m (st t')) : (iblk m hO 0 2 t : Vec F S1x1x1024x768 .f32) = iblk m hO 0 2 t' :=
  read_2_congr (adm m hO) t t' (V m 0 main_v46) _ (expT_lt m hf (st t)) (at_2 m hO t) ((at_2 m hO t').trans (by rw [h]))
theorem blk_3_congr (hO : Ok m) (t t' : Fin grid0.N) (h : expT m (st t) = expT m (st t')) : (iblk m hO 0 3 t : Vec F S1x1x768x1024 .f32) = iblk m hO 0 3 t' :=
  read_3_congr (adm m hO) t t' (V m 0 main_v47) _ (expT_lt m hf (st t)) (at_3 m hO t) ((at_3 m hO t').trans (by rw [h]))

/-- The expert of a step that doesn't reload. -/
theorem exp_same (n : ℕ) (hn : n + 1 < grid0.N) (hr : ¬ reload (0 : Dev nD) (grid0.coords ⟨n + 1, hn⟩) (tbl m 0)) :
    expT m (st ⟨n, Nat.lt_of_succ_lt hn⟩) = expT m (st ⟨n + 1, hn⟩) := by
  have h := same_of_held _ _ _ hr
  rw [now_eq, prev_eq m ⟨n + 1, hn⟩ (st ⟨n, Nat.lt_of_succ_lt hn⟩) rfl] at h
  exact h.symm

/-- The weights held after a step are that step's expert's. -/
theorem w0_at (hO : Ok m) : ∀ (n : ℕ) (hn : n < grid0.N), w0 m hO 0 (n + 1) = k0_pay1 (iblk m hO 0 1 ⟨n, hn⟩) := by
  intro n
  induction n with
  | zero => intro hn; exact (w0_succ m hO 0 ⟨0, hn⟩).trans (held_pos (reload_first 0 _ (coords_val ⟨0, hn⟩) _) _ _)
  | succ n ih =>
    intro hn
    refine (w0_succ m hO 0 ⟨n + 1, hn⟩).trans ?_
    by_cases hr : reload (0 : Dev nD) (grid0.coords ⟨n + 1, hn⟩) (tbl m 0)
    · exact held_pos hr _ _
    · refine (held_neg hr _ _).trans ((ih (Nat.lt_of_succ_lt hn)).trans ?_)
      exact congrArg k0_pay1 (blk_1_congr m hf hO _ _ (exp_same m hf n hn hr))
theorem w1_at (hO : Ok m) : ∀ (n : ℕ) (hn : n < grid0.N), w1 m hO 0 (n + 1) = k0_pay2 (iblk m hO 0 2 ⟨n, hn⟩) := by
  intro n
  induction n with
  | zero => intro hn; exact (w1_succ m hO 0 ⟨0, hn⟩).trans (held_pos (reload_first 0 _ (coords_val ⟨0, hn⟩) _) _ _)
  | succ n ih =>
    intro hn
    refine (w1_succ m hO 0 ⟨n + 1, hn⟩).trans ?_
    by_cases hr : reload (0 : Dev nD) (grid0.coords ⟨n + 1, hn⟩) (tbl m 0)
    · exact held_pos hr _ _
    · refine (held_neg hr _ _).trans ((ih (Nat.lt_of_succ_lt hn)).trans ?_)
      exact congrArg k0_pay2 (blk_2_congr m hf hO _ _ (exp_same m hf n hn hr))
theorem w2_at (hO : Ok m) : ∀ (n : ℕ) (hn : n < grid0.N), w2 m hO 0 (n + 1) = k0_pay3 (iblk m hO 0 3 ⟨n, hn⟩) := by
  intro n
  induction n with
  | zero => intro hn; exact (w2_succ m hO 0 ⟨0, hn⟩).trans (held_pos (reload_first 0 _ (coords_val ⟨0, hn⟩) _) _ _)
  | succ n ih =>
    intro hn
    refine (w2_succ m hO 0 ⟨n + 1, hn⟩).trans ?_
    by_cases hr : reload (0 : Dev nD) (grid0.coords ⟨n + 1, hn⟩) (tbl m 0)
    · exact held_pos hr _ _
    · refine (held_neg hr _ _).trans ((ih (Nat.lt_of_succ_lt hn)).trans ?_)
      exact congrArg k0_pay3 (blk_3_congr m hf hO _ _ (exp_same m hf n hn hr))

theorem used_eq : nUsed (0 : Dev nD) (tbl m 2) = BitVec.ofNat 32 (first (cn m) 16) := by
  rw [← last_tbl m hf]
  refine congrArg (V m (0 : Dev nD) main_v44) ?_
  funext a
  match a with
  | ⟨0, _⟩ => rfl

/-- The block that a step in use leaves. -/
theorem out_used (hO : Ok m) (t : Fin grid0.N) (h : t.val < first (cn m) 16) :
    outAt m hO 0 t = tileOut (iblk m hO 0 0 t) (k0_pay1 (iblk m hO 0 1 t)) (k0_pay2 (iblk m hO 0 2 t)) (k0_pay3 (iblk m hO 0 3 t)) := by
  unfold outAt left
  rw [held_neg, w0_at m hf hO t.val t.isLt, w1_at m hf hO t.val t.isLt, w2_at m hf hO t.val t.isLt]
  rw [used_eq m hf]
  have hs : ∀ b : Bool, (Scalar.cmpi .ne (Scalar.extui (BitVec.ofBool b)) 0#32 : BitVec 1) = BitVec.ofBool b := by decide
  show ¬ (Scalar.cmpi .ne (Scalar.extui (BitVec.ofBool ((BitVec.ofNat 32 (first (cn m) 16)).sle (BitVec.ofNat 32 (grid0.coords t 0).val)))) 0#32 = 1#1)
  have hl := hf.2
  have e : (BitVec.ofNat 32 (first (cn m) 16)).sle (BitVec.ofNat 32 (grid0.coords t 0).val) = false := by
    rw [BitVec.sle_eq_decide, coords_val, StableHlo.Predicate.toInt_ofNat_small _ (by show first (cn m) 16 < _; exact lt_of_le_of_lt hl (by norm_num)),
      StableHlo.Predicate.toInt_ofNat_small _ (by have := t.isLt; have e : grid0.N = 148 := N_0; omega)]
    simp only [decide_eq_false_iff_not]
    omega
  rw [hs, e]
  decide

end

end Cert.Experts

end
-- ==== Proof.ExpertsArray.lean ====
/- The output array of the experts' call after the run, at a block that a step in use stores. -/
module

public import proofs.«01_k».proof.Proof.ExpertsHeld

@[expose] public section

set_option maxRecDepth 16384

noncomputable section

namespace Cert.Experts

open Cert.Kernel2Ideal Cert.Kernel2Ideal.Gen
open Idealize.ShloMosaic Idealize.ShloMosaic.TcCoe
open Idealize.ShloMosaic.Pipeline (Dat)

variable {F : FTy → Type} [FloatOps F]

/-- A point is written back when it is the last or the next one's block is another. -/
theorem flush_iff (a : (pcfg0 (F := F)).Adm) (t : Fin grid0.N) :
    ((cfg0 a).win 4).flush t = true ↔ (t.val + 1 = grid0.N ∨ ∃ h : t.val + 1 < grid0.N, ((cfg0 a).win 4).index ⟨t.val + 1, h⟩ ≠ ((cfg0 a).win 4).index t) := by
  unfold Pipeline.Window.flush
  show (true && (decide (t.val + 1 = grid0.N) || decide _)) = true ↔ _
  rw [Bool.true_and, Bool.or_eq_true, decide_eq_true_iff, decide_eq_true_iff]

theorem emb_4 (a : (pcfg0 (F := F)).Adm) (t : Fin (cfg0 a).N) (y : S4096x128.Idx) (R z : ℕ)
    (h : ((cfg0 a).win 4).index t = ![R, z]) (i : S4329472x128.Idx) (h0 : (i 0).val = R * 4096 + (y 0).val) (h1 : (i 1).val = z * 128 + (y 1).val) :
    ((((cfg0 a).win 4).blk t).view.emb y : S4329472x128.Idx) = i := by
  funext k
  apply Fin.ext
  refine (Pipeline.Window.rect_emb_val ((cfg0 a).win 4) t y k).trans ?_
  rw [h]
  match k with
  | ⟨0, _⟩ => exact h0.symm
  | ⟨1, _⟩ => exact h1.symm

/-- An array's element under a point that is written back, when such points' blocks are all different. -/
theorem array_of (a : (pcfg0 (F := F)).Adm) {c : Dev nD} (dat : Dat τ (Elt F) Unit ℕ (UR sig nD τ) ℕ (cfg0 a) c)
    (hd : ∀ t t' : Fin grid0.N, ((cfg0 a).win 4).flush t = true → ((cfg0 a).win 4).flush t' = true → t ≠ t' → ((cfg0 a).win 4).index t ≠ ((cfg0 a).win 4).index t')
    (t : Fin grid0.N) (ht : ((cfg0 a).win 4).flush t = true) (y : S4096x128.Idx) (R : ℕ) (h : ((cfg0 a).win 4).index t = ![R, 0])
    (i : S4329472x128.Idx) (h0 : (i 0).val = R * 4096 + (y 0).val) (h1 : (i 1).val = (y 1).val) :
    (dat.arrAt 4 (cfg0 a).N : Vec F S4329472x128 .f32) i = (dat.after 4 t : Vec F S4096x128 .f32) y := by
  have e := dat.arrAt_emb_eq_flushed 4 (fun t t' hf hf' hne => ((cfg0 a).win 4).disjoint_blk (hd t t' hf hf' hne)) t ht y
  rw [← emb_4 a t y R 0 h i h0 (by omega)]
  exact e

section
variable (m : (ℓ : Loc nD τ sig) → Buf (Elt F) ℓ) (hf : Fits (cntA m (0 : Dev nD)))
include hf

theorem row_used_val (t : Fin 148) (h : t.val < first (cn m) 16) : ∃ e < 16, first (cn m) e ≤ t.val ∧ t.val < first (cn m) (e + 1)
    ∧ t.val - first (cn m) e < 66 ∧ (rowT m t).toNat = e * 66 + (t.val - first (cn m) e) := by
  obtain ⟨e, he, h1, h2⟩ := step_owner (cn m) h
  have h3 := blk_le m hf e he
  have h4 := first_succ (cn m) e
  have h5 : t.val - first (cn m) e < 66 := by omega
  refine ⟨e, he, h1, h2, h5, ?_⟩
  rw [rowT_used m hf t ⟨e, he⟩ h1 h2, BitVec.toNat_ofNat]
  refine Nat.mod_eq_of_lt ?_
  show e * 66 + (t.val - first (cn m) e) < 2 ^ 32
  omega

theorem row_rest_val (t : Fin 148) (h : first (cn m) 16 ≤ t.val) : (rowT m t).toNat = 1056 := by
  rw [rowT_rest m hf t h]; decide

/-- A step in use has a block of its own. -/
theorem row_ne (t t' : Fin 148) (h : t.val < first (cn m) 16) (hne : t ≠ t') : (rowT m t).toNat ≠ (rowT m t').toNat := by
  obtain ⟨e, he, h1, h2, h3, h4⟩ := row_used_val m hf t h
  by_cases h' : t'.val < first (cn m) 16
  · obtain ⟨e', he', h1', h2', h3', h4'⟩ := row_used_val m hf t' h'
    rw [h4, h4']
    intro hc
    have ee : e = e' := by omega
    subst ee
    exact hne (Fin.ext (by omega))
  · rw [h4, row_rest_val m hf t' (by omega)]
    omega

theorem index_ne (hO : Ok m) (t t' : Fin grid0.N) (h : (rowT m (st t)).toNat ≠ (rowT m (st t')).toNat) : ((cfgM m hO).win 4).index t ≠ ((cfgM m hO).win 4).index t' := by
  intro hc
  rw [at_4, at_4] at hc
  exact h (congrFun hc 0)

theorem flush_used (hO : Ok m) (t : Fin grid0.N) (h : t.val < first (cn m) 16) : ((cfgM m hO).win 4).flush t = true := by
  have hl := hf.2
  have hN : grid0.N = 148 := N_0
  have hl' : first (cn m) 16 ≤ 147 := hl
  refine (flush_iff (adm m hO) t).2 (.inr ⟨by omega, ?_⟩)
  refine (index_ne m hf hO t ⟨t.val + 1, by omega⟩ (row_ne m hf _ _ h ?_)).symm
  intro hc
  have := congrArg Fin.val hc
  simp at this

theorem flush_ne (hO : Ok m) (t t' : Fin grid0.N) (h : ((cfgM m hO).win 4).flush t = true) (h' : ((cfgM m hO).win 4).flush t' = true) (hne : t ≠ t') :
    ((cfgM m hO).win 4).index t ≠ ((cfgM m hO).win 4).index t' := by
  have hst : ∀ u u' : Fin grid0.N, u ≠ u' → st u ≠ st u' := fun u u' hu hc => hu (Fin.ext (congrArg Fin.val hc))
  have last : ∀ u : Fin grid0.N, ((cfgM m hO).win 4).flush u = true → ¬ u.val < first (cn m) 16 → u.val + 1 = grid0.N := by
    intro u hu hn
    rcases (flush_iff (adm m hO) u).1 hu with e | ⟨hlt, hx⟩
    · exact e
    · refine absurd ?_ hx
      refine (at_4 m hO ⟨u.val + 1, hlt⟩).trans (Eq.trans ?_ (at_4 m hO u).symm)
      rw [row_rest_val m hf (st ⟨u.val + 1, hlt⟩) (by show first (cn m) 16 ≤ u.val + 1; omega), row_rest_val m hf (st u) (by show first (cn m) 16 ≤ u.val; omega)]
  by_cases hu : t.val < first (cn m) 16
  · exact index_ne m hf hO t t' (row_ne m hf _ _ hu (hst t t' hne))
  · by_cases hu' : t'.val < first (cn m) 16
    · exact (index_ne m hf hO t' t (row_ne m hf _ _ hu' (hst t' t hne.symm))).symm
    · exact absurd (Fin.ext (by have := last t h hu; have := last t' h' hu'; omega)) hne

/-- The output array at a step in use. -/
theorem array_used (hO : Ok m) (t : Fin grid0.N) (h : t.val < first (cn m) 16) (y : S4096x128.Idx) (i : S4329472x128.Idx)
    (h0 : (i 0).val = (rowT m (st t)).toNat * 4096 + (y 0).val) (h1 : (i 1).val = (y 1).val) :
    ((dats m hO 0 0).arrAt 4 (cfgM m hO).N : Vec F S4329472x128 .f32) i
      = tileOut (iblk m hO 0 0 t) (k0_pay1 (iblk m hO 0 1 t)) (k0_pay2 (iblk m hO 0 2 t)) (k0_pay3 (iblk m hO 0 3 t)) y := by
  refine (array_of (adm m hO) (dats m hO 0 0) (flush_ne m hf hO) t (flush_used m hf hO t h) y _ (at_4 m hO t) i h0 h1).trans ?_
  rw [after0_4, out_used m hf hO t h]

end

end Cert.Experts

end
-- ==== Proof.ExpertsHost.lean ====
/- The arrays that the experts' call reads, and the result after the host code that follows it, at an index. -/
module

public import proofs.«01_k».proof.Proof.ExpertsBody
public import proofs.«01_k».proof.Proof.ExpertsTables
public import Idealize.ShloMosaic.Lib.StableHlo.ReadAt
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe

variable (m : (ℓ : Loc nD τ sig) → Buf (Elt Ideal) ℓ) (c : Dev nD)

/-- The tokens of the lists and the three weights. -/
abbrev xA : FVec Ideal S16x33792x1024 .f32 := m ((c : Thread nD τ).loc main_arg0)
abbrev wgA : FVec Ideal S16x1024x768 .f32 := m ((c : Thread nD τ).loc main_arg2)
abbrev wuA : FVec Ideal S16x1024x768 .f32 := m ((c : Thread nD τ).loc main_arg3)
abbrev wdA : FVec Ideal S16x768x1024 .f32 := m ((c : Thread nD τ).loc main_arg4)

theorem at_ix3 {α : Type} {n0 n1 n2 : ℕ} (x : (⟨3, ![n0, n1, n2]⟩ : Shape).Idx → α) {a a' : Fin n0} {b b' : Fin n1} {d d' : Fin n2}
    (h0 : a.val = a'.val) (h1 : b.val = b'.val) (h2 : d.val = d'.val) : x (ix3 a b d) = x (ix3 a' b' d') := by
  rw [Fin.ext h0, Fin.ext h1, Fin.ext h2]

/-- The lists' rows of lanes, read at an index. -/
theorem cast_in (x : FVec Ideal S16x33792x1024 .f32) (R : Fin 4325376) (l : Fin 128) (e : Fin 16) (r : Fin 33792) (d : Fin 1024)
    (hR : R.val = (e.val * 33792 + r.val) * 8 + d.val / 128) (hl : l.val = d.val % 128) :
    shapeCast S4325376x128 x shapeCasts_S16x33792x1024_S4325376x128 (ix2 R l) = x (ix3 e r d) := by
  pointwise
  exact at_ix3 x (by simp only []; omega) (by simp only []; omega) (by simp only []; omega)

theorem cat_in (a : FVec Ideal S4325376x128 .f32) (b : FVec Ideal S4096x128 .f32) (R : Fin 4329472) (l : Fin 128) (h : R.val < 4325376) :
    concatenate S4329472x128 0 [⟨S4325376x128, a⟩, ⟨S4096x128, b⟩] concatenates_S4325376x128_S4096x128_S4329472x128_d0 (ix2 R l) = a (ix2 ⟨R.val, h⟩ l) := by
  pointwise
  rw [dif_pos h]

set_option maxHeartbeats 4000000 in
theorem V_v2 : V m c main_v2 = concatenate S4329472x128 0 [⟨S4325376x128, shapeCast S4325376x128 (xA m c) shapeCasts_S16x33792x1024_S4325376x128⟩,
    ⟨S4096x128, broadcastInDim S4096x128 ![] bcast_S_S4096x128 (constant S_ .f32 0x00000000#32)⟩] concatenates_S4325376x128_S4096x128_S4329472x128_d0 := by
  unfold V
  after_reads_simp
  all_goals try simp -implicitDefEqProofs only [StableHlo.TRef.toBuf, StableHlo.TRef.ofBuf, cast_cast, cast_eq]
  all_goals clean_types
  rfl

/-- Row `R` and lane `l` of the call's rows, a feature of a list's token. -/
theorem rows_in (R : Fin 4329472) (l : Fin 128) (e : Fin 16) (r : Fin 33792) (d : Fin 1024)
    (hR : R.val = (e.val * 33792 + r.val) * 8 + d.val / 128) (hl : l.val = d.val % 128) :
    (V m c main_v2 : FVec Ideal S4329472x128 .f32) (ix2 R l) = xA m c (ix3 e r d) := by
  have h : R.val < 4325376 := by omega
  rw [V_v2, cat_in _ _ R l h]
  exact cast_in _ ⟨R.val, h⟩ l e r d hR hl

theorem lift_g (x : FVec Ideal S16x1024x768 .f32) (z : Fin 1) (e : Fin 16) (d : Fin 1024) (f : Fin 768) :
    broadcastInDim S1x16x1024x768 ![1, 2, 3] bcast_S16x1024x768_S1x16x1024x768_1_2_3 x (ix4 z e d f) = x (ix3 e d f) := by
  pointwise
theorem lift_d (x : FVec Ideal S16x768x1024 .f32) (z : Fin 1) (e : Fin 16) (d : Fin 768) (f : Fin 1024) :
    broadcastInDim S1x16x768x1024 ![1, 2, 3] bcast_S16x768x1024_S1x16x768x1024_1_2_3 x (ix4 z e d f) = x (ix3 e d f) := by
  pointwise

set_option maxHeartbeats 4000000 in
theorem V_v45 : V m c main_v45 = broadcastInDim S1x16x1024x768 ![1, 2, 3] bcast_S16x1024x768_S1x16x1024x768_1_2_3 (wgA m c) := by
  unfold V
  after_reads_simp
set_option maxHeartbeats 4000000 in
theorem V_v46 : V m c main_v46 = broadcastInDim S1x16x1024x768 ![1, 2, 3] bcast_S16x1024x768_S1x16x1024x768_1_2_3 (wuA m c) := by
  unfold V
  after_reads_simp
set_option maxHeartbeats 4000000 in
theorem V_v47 : V m c main_v47 = broadcastInDim S1x16x768x1024 ![1, 2, 3] bcast_S16x768x1024_S1x16x768x1024_1_2_3 (wdA m c) := by
  unfold V
  after_reads_simp

theorem gate_in (z : Fin 1) (e : Fin 16) (d : Fin 1024) (f : Fin 768) : (V m c main_v45 : FVec Ideal S1x16x1024x768 .f32) (ix4 z e d f) = wgA m c (ix3 e d f) := by
  rw [V_v45]; exact lift_g _ z e d f
theorem up_in (z : Fin 1) (e : Fin 16) (d : Fin 1024) (f : Fin 768) : (V m c main_v46 : FVec Ideal S1x16x1024x768 .f32) (ix4 z e d f) = wuA m c (ix3 e d f) := by
  rw [V_v46]; exact lift_g _ z e d f
theorem down_in (z : Fin 1) (e : Fin 16) (d : Fin 768) (f : Fin 1024) : (V m c main_v47 : FVec Ideal S1x16x768x1024 .f32) (ix4 z e d f) = wdA m c (ix3 e d f) := by
  rw [V_v47]; exact lift_d _ z e d f

end Cert.Experts

end
-- ==== Proof.ExpertsTileValue.lean ====
/- The block that a step of the experts' kernel stores, read at an index over the extended reals. -/
module

public import proofs.«01_k».proof.Proof.ExpertsTile
public import Idealize.ShloMosaic.Lib.Pointwise

@[expose] public section

set_option maxRecDepth 16384

noncomputable section

namespace Cert.Experts

open Cert.Kernel2Ideal Cert.Kernel2Ideal.Gen
open Idealize.ShloMosaic

/-- One output feature of a token through an expert: `x` the token, `wg` and `wu` the gate's and the up projection's
    weights, `wd` the down projection's column. -/
def ffn (x : Fin 1024 → EReal) (wg wu : Fin 1024 → Fin 768 → EReal) (wd : Fin 768 → EReal) : EReal :=
  ∑ f, (∑ d, x d * wg d f) * Ideal.logistic (∑ d, x d * wg d f) * (∑ d, x d * wu d f) * wd f

/-- The products of half a block. -/
def products (x : FVec Ideal S256x1024 .f32) (y0 y1 : FVec Ideal S1024x768 .bf16) (y2 : FVec Ideal S768x1024 .bf16) : FVec Ideal S256x1024 .f32 :=
  matmul dot_S256x768_S768x1024_S256x1024_1_0_0_1_n_n none
    (truncf .bf16 (mulf (φ := .f32) (mulf (φ := .f32) (matmul dot_S256x1024_S1024x768_S256x768_1_0_0_1_n_n none (truncf .bf16 x bitsLt_bf16_f32) y0 (constant S256x768 .f32 0x00000000#32))
        (logistic (matmul dot_S256x1024_S1024x768_S256x768_1_0_0_1_n_n none (truncf .bf16 x bitsLt_bf16_f32) y0 (constant S256x768 .f32 0x00000000#32))))
      (matmul dot_S256x1024_S1024x768_S256x768_1_0_0_1_n_n none (truncf .bf16 x bitsLt_bf16_f32) y1 (constant S256x768 .f32 0x00000000#32))) bitsLt_bf16_f32)
    y2 (constant S256x1024 .f32 0x00000000#32)

theorem products_apply (x : FVec Ideal S256x1024 .f32) (y0 y1 : FVec Ideal S1024x768 .bf16) (y2 : FVec Ideal S768x1024 .bf16) (i : Fin 256) (j : Fin 1024) :
    products x y0 y1 y2 (ix2 i j) = ffn (fun d => x (ix2 i d)) (fun d f => y0 (ix2 d f)) (fun d f => y1 (ix2 d f)) fun f => y2 (ix2 f j) := by
  pointwise [products, ffn]

/-- Eight slices of lanes side by side. -/
def cat8 (v0 v1 v2 v3 v4 v5 v6 v7 : Vec Ideal S256x128 .f32) : FVec Ideal S256x1024 .f32 :=
  concatenate S256x1024 1 [⟨S256x128, shapeCast S256x128 v0 shapeCasts_S256x128_S256x128⟩, ⟨S256x128, shapeCast S256x128 v1 shapeCasts_S256x128_S256x128⟩,
    ⟨S256x128, shapeCast S256x128 v2 shapeCasts_S256x128_S256x128⟩, ⟨S256x128, shapeCast S256x128 v3 shapeCasts_S256x128_S256x128⟩,
    ⟨S256x128, shapeCast S256x128 v4 shapeCasts_S256x128_S256x128⟩, ⟨S256x128, shapeCast S256x128 v5 shapeCasts_S256x128_S256x128⟩,
    ⟨S256x128, shapeCast S256x128 v6 shapeCasts_S256x128_S256x128⟩, ⟨S256x128, shapeCast S256x128 v7 shapeCasts_S256x128_S256x128⟩]
    concatenates_S256x128_S256x128_S256x128_S256x128_S256x128_S256x128_S256x128_S256x128_S256x1024_d1

theorem pay6_eq (v0 v1 v2 v3 v4 v5 v6 v7 : Vec Ideal S256x128 .f32) (y0 y1 : Vec Ideal S1024x768 .bf16) (y2 : Vec Ideal S768x1024 .bf16) :
    k0_pay6 v0 v1 v2 v3 v4 v5 v6 v7 y0 y1 y2 = products (cat8 v0 v1 v2 v3 v4 v5 v6 v7) y0 y1 y2 := rfl

theorem rowsAt_apply (x0 : Vec Ideal S4096x128 .f32) (o : ℕ) (h) (i : Fin 256) (l : Fin 128) (z : S4096x128.Idx)
    (h0 : (z 0).val = o + 8 * i.val) (h1 : (z 1).val = l.val) : rowsAt x0 o h (ix2 i l) = x0 z := by
  unfold rowsAt
  congr 1
  funext a
  apply Fin.ext
  match a with
  | ⟨0, _⟩ => exact h0.symm
  | ⟨1, _⟩ => show 0 + 1 * l.val = (z 1).val; omega

/-- The eight strided slices side by side are the tokens, one a row. -/
theorem cat8_rows (x0 : Vec Ideal S4096x128 .f32) (o : ℕ) (h0) (h1) (h2) (h3) (h4) (h5) (h6) (h7) (i : Fin 256) (d : Fin 1024) (z : S4096x128.Idx)
    (hz0 : (z 0).val = o + 8 * i.val + d.val / 128) (hz1 : (z 1).val = d.val % 128) :
    cat8 (rowsAt x0 (o + 0) h0) (rowsAt x0 (o + 1) h1) (rowsAt x0 (o + 2) h2) (rowsAt x0 (o + 3) h3) (rowsAt x0 (o + 4) h4) (rowsAt x0 (o + 5) h5)
      (rowsAt x0 (o + 6) h6) (rowsAt x0 (o + 7) h7) (ix2 i d) = x0 z := by
  have key : ∀ v0 v1 v2 v3 v4 v5 v6 v7 : Vec Ideal S256x128 .f32, (∀ (l : ℕ) (hl : l < 128), d.val = l → v0 (ix2 i ⟨l, hl⟩) = x0 z) → (∀ (l : ℕ) (hl : l < 128), d.val = 128 + l → v1 (ix2 i ⟨l, hl⟩) = x0 z)
      → (∀ (l : ℕ) (hl : l < 128), d.val = 256 + l → v2 (ix2 i ⟨l, hl⟩) = x0 z) → (∀ (l : ℕ) (hl : l < 128), d.val = 384 + l → v3 (ix2 i ⟨l, hl⟩) = x0 z)
      → (∀ (l : ℕ) (hl : l < 128), d.val = 512 + l → v4 (ix2 i ⟨l, hl⟩) = x0 z) → (∀ (l : ℕ) (hl : l < 128), d.val = 640 + l → v5 (ix2 i ⟨l, hl⟩) = x0 z)
      → (∀ (l : ℕ) (hl : l < 128), d.val = 768 + l → v6 (ix2 i ⟨l, hl⟩) = x0 z) → (∀ (l : ℕ) (hl : l < 128), d.val = 896 + l → v7 (ix2 i ⟨l, hl⟩) = x0 z)
      → cat8 v0 v1 v2 v3 v4 v5 v6 v7 (ix2 i d) = x0 z := by
    intro v0 v1 v2 v3 v4 v5 v6 v7 k0 k1 k2 k3 k4 k5 k6 k7
    pointwise [cat8]
    split_ifs
    all_goals first
      | (exfalso; rename_i hh; exact hh rfl)
      | exact k0 _ _ (by omega)
      | exact k1 _ _ (by omega)
      | exact k2 _ _ (by omega)
      | exact k3 _ _ (by omega)
      | exact k4 _ _ (by omega)
      | exact k5 _ _ (by omega)
      | exact k6 _ _ (by omega)
      | exact k7 _ _ (by omega)
  refine key _ _ _ _ _ _ _ _ ?_ ?_ ?_ ?_ ?_ ?_ ?_ ?_
  all_goals
    intro l hl hd
    exact rowsAt_apply x0 _ _ i ⟨l, hl⟩ z (by omega) (by show (z 1).val = l; omega)

/-- The stored block at row `R` and lane `l`. -/
theorem tile_apply (x0 : Vec Ideal S4096x128 .f32) (y0 y1 : Vec Ideal S1024x768 .bf16) (y2 : Vec Ideal S768x1024 .bf16) (R : Fin 4096) (l : Fin 128) :
    tileOut x0 y0 y1 y2 (ix2 R l)
      = ffn (fun d => x0 (ix2 ⟨R.val / 8 * 8 + d.val / 128, by omega⟩ ⟨d.val % 128, by omega⟩)) (fun d f => y0 (ix2 d f)) (fun d f => y1 (ix2 d f))
          fun f => y2 (ix2 f ⟨R.val % 8 * 128 + l.val, by omega⟩) := by
  have es : spot (ix2 R l) = ix2 ⟨R.val % 2048 / 8, by omega⟩ ⟨R.val % 8 * 128 + l.val, by omega⟩ := rfl
  unfold tileOut
  show (if R.val < 2048 then half1 x0 y0 y1 y2 (spot (ix2 R l)) else half2 x0 y0 y1 y2 (spot (ix2 R l))) = _
  rw [es]
  split
  · rename_i hR
    unfold half1
    rw [pay6_eq, products_apply]
    congr 1
    funext d
    exact cat8_rows x0 0 _ _ _ _ _ _ _ _ _ d _ (by show R.val / 8 * 8 + d.val / 128 = 0 + 8 * (R.val % 2048 / 8) + d.val / 128; omega) rfl
  · rename_i hR
    unfold half2
    rw [pay6_eq, products_apply]
    congr 1
    funext d
    exact cat8_rows x0 2048 _ _ _ _ _ _ _ _ _ d _ (by show R.val / 8 * 8 + d.val / 128 = 2048 + 8 * (R.val % 2048 / 8) + d.val / 128; omega) rfl

end Cert.Experts

end
-- ==== Proof.ExpertsOut.lean ====
/- The experts' kernel's result, read at an index. -/
module

public import proofs.«01_k».proof.Proof.ExpertsArray
public import proofs.«01_k».proof.Proof.ExpertsHost
public import proofs.«01_k».proof.Proof.ExpertsTileValue

@[expose] public section

set_option maxRecDepth 16384

noncomputable section

namespace Cert.Experts

open Cert.Kernel2Ideal Cert.Kernel2Ideal.Gen
open Idealize.ShloMosaic Idealize.ShloMosaic.TcCoe

/-- The array's rows of lanes as the lists' tokens, read at an index. -/
theorem cast_out (x : FVec Ideal S4329472x128 .f32) (e : Fin 16) (r : Fin 33792) (d : Fin 1024) (i : S4329472x128.Idx)
    (h0 : (i 0).val = (e.val * 33792 + r.val) * 8 + d.val / 128) (h1 : (i 1).val = d.val % 128) :
    shapeCast S16x33792x1024 (extractStridedSlice S4325376x128 ![0, 0] x slices_S4329472x128_S4325376x128_0_0) shapeCasts_S4325376x128_S16x33792x1024 (ix3 e r d) = x i := by
  have key : ∀ y : FVec Ideal S4325376x128 .f32, ∀ (R : Fin 4325376) (l : Fin 128), R.val = (e.val * 33792 + r.val) * 8 + d.val / 128 → l.val = d.val % 128 →
      shapeCast S16x33792x1024 y shapeCasts_S4325376x128_S16x33792x1024 (ix3 e r d) = y (ix2 R l) := by
    intro y R l hR hl
    pointwise
    refine congrArg y ?_
    refine congrArg₂ ix2 (Fin.ext ?_) (Fin.ext ?_)
    · simp only []; omega
    · simp only []; omega
  rw [key _ ⟨(e.val * 33792 + r.val) * 8 + d.val / 128, by omega⟩ ⟨d.val % 128, by omega⟩ rfl rfl]
  have cut : ∀ (R : Fin 4325376) (l : Fin 128), extractStridedSlice S4325376x128 ![0, 0] x slices_S4329472x128_S4325376x128_0_0 (ix2 R l) = x (ix2 ⟨R.val, by omega⟩ l) := by
    intro R l
    pointwise
  rw [cut]
  refine congrArg x ?_
  funext a
  match a with
  | ⟨0, _⟩ => exact Fin.ext h0.symm
  | ⟨1, _⟩ => exact Fin.ext h1.symm

/-- Zero past each list's count. -/
def keptK (n : IVec S16 32) (v : FVec Ideal S16x33792x1024 .f32) : FVec Ideal S16x33792x1024 .f32 :=
  select (broadcastInDim S16x33792x1024 ![0, 1, 2] bcast_S16x33792x1_S16x33792x1024_0_1_2
      (cmpi .slt (broadcastInDim S16x33792x1 ![0, 1, 2] bcast_S1x33792x1_S16x33792x1_0_1_2 (broadcastInDim S1x33792x1 ![1] bcast_S33792_S1x33792x1_1 (iotaInDim S33792 32 0)))
        (broadcastInDim S16x33792x1 ![0, 1, 2] bcast_S16x1x1_S16x33792x1_0_1_2 (broadcastInDim S16x1x1 ![0] bcast_S16_S16x1x1_0 n))))
    v (broadcastInDim S16x33792x1024 ![] bcast_S_S16x33792x1024 (id (constant S_ .f32 0x00000000#32)))

theorem keptK_apply (n : IVec S16 32) (v : FVec Ideal S16x33792x1024 .f32) (e : Fin 16) (r : Fin 33792) (d : Fin 1024) :
    keptK n v (ix3 e r d) = Scalar.select (IntOp.cmpi .slt (BitVec.ofNat 32 r.val) (n (ix1 e))) (v (ix3 e r d)) 0 := by
  pointwise [keptK]
  have h : (id (constant (F := Ideal) S_ .f32 0x00000000#32) ix0 : EReal) = 0 := by
    show constant (F := Ideal) S_ .f32 0x00000000#32 ix0 = 0
    pointwise
  rw [h]

set_option maxHeartbeats 4000000 in
/-- The host code after the call. -/
theorem tail_eq (W : Valuation τ sig (Elt Ideal)) : StableHlo.after (List.flatten [hostOps1, hostOps1_1]) W (Proc.devRef .tc main_v57)
    = keptK (W (Proc.devRef .tc main_arg1)) (shapeCast S16x33792x1024 (extractStridedSlice S4325376x128 ![0, 0] (W (Proc.devRef .tc main_v48)) slices_S4329472x128_S4325376x128_0_0) shapeCasts_S4325376x128_S16x33792x1024) := by
  after_reads_simp
  all_goals try simp -implicitDefEqProofs only [StableHlo.TRef.toBuf, StableHlo.TRef.ofBuf, cast_cast, cast_eq]
  all_goals clean_types
  all_goals rfl

variable (m : (ℓ : Loc nD τ sig) → Buf (Elt Ideal) ℓ)

/-- The result buffer's contents at the end. -/
abbrev outA (hO : Ok m) (c : Dev nD) : FVec Ideal S16x33792x1024 .f32 :=
  Pipeline.afterTail pcfgs (fun _ => adm m hO) (dats m hO) 0 (V0 m) [hostOps1, hostOps1_1] c main_v57

/-- The contents before the host code that follows the call. -/
abbrev W1 (hO : Ok m) (c : Dev nD) : Valuation τ sig (Elt Ideal) :=
  Pipeline.withArrays spec0 c (V0 m c) fun w => (dats m hO 0 c).arrAt w (cfgM m hO).N

theorem array_found (hO : Ok m) (c : Dev nD) : W1 m hO c (Proc.devRef .tc main_v48) = (dats m hO 0 c).arrAt 4 (cfgM m hO).N :=
  Pipeline.withArrays_arr spec0 winFacts0.arr_inj c (V0 m c) (fun w => (dats m hO 0 c).arrAt w (cfgM m hO).N) 4

theorem counts_found (hO : Ok m) (c : Dev nD) : W1 m hO c (Proc.devRef .tc main_arg1) = m ((c : Thread nD τ).loc main_arg1) :=
  (Pipeline.withArrays_of_ne spec0 c (V0 m c) _ main_arg1 (by decide)).trans (V_arg m c main_arg1 (by simp))

/-- The call's array at the end. -/
abbrev arrA (hO : Ok m) (c : Dev nD) : FVec Ideal S4329472x128 .f32 := (dats m hO 0 c).arrAt 4 (cfgM m hO).N

theorem outA_eq (hO : Ok m) (c : Dev nD) : outA m hO c
    = keptK (cntA m c) (shapeCast S16x33792x1024 (extractStridedSlice S4325376x128 ![0, 0] (arrA m hO c) slices_S4329472x128_S4325376x128_0_0) shapeCasts_S4325376x128_S16x33792x1024) := by
  have h1 : W1 m hO c (Proc.devRef .tc main_v48) = arrA m hO c := array_found m hO c
  have h2 : W1 m hO c (Proc.devRef .tc main_arg1) = cntA m c := counts_found m hO c
  rw [← h1, ← h2]
  exact tail_eq (W1 m hO c)

theorem ffn_congr {x x' : Fin 1024 → EReal} {wg wg' wu wu' : Fin 1024 → Fin 768 → EReal} {wd wd' : Fin 768 → EReal}
    (h0 : ∀ d, x d = x' d) (h1 : ∀ d f, wg d f = wg' d f) (h2 : ∀ d f, wu d f = wu' d f) (h3 : ∀ f, wd f = wd' f) : ffn x wg wu wd = ffn x' wg' wu' wd' := by
  obtain rfl : x = x' := funext h0
  obtain rfl : wg = wg' := funext fun d => funext (h1 d)
  obtain rfl : wu = wu' := funext fun d => funext (h2 d)
  obtain rfl : wd = wd' := funext h3
  rfl

theorem pay1_apply (x : Vec Ideal S1x1x1024x768 .f32) (d : Fin 1024) (f : Fin 768) : k0_pay1 x (ix2 d f) = x (ix4 0 0 d f) := by
  pointwise [k0_pay1]
theorem pay2_apply (x : Vec Ideal S1x1x1024x768 .f32) (d : Fin 1024) (f : Fin 768) : k0_pay2 x (ix2 d f) = x (ix4 0 0 d f) := by
  pointwise [k0_pay2]
theorem pay3_apply (x : Vec Ideal S1x1x768x1024 .f32) (d : Fin 768) (f : Fin 1024) : k0_pay3 x (ix2 d f) = x (ix4 0 0 d f) := by
  pointwise [k0_pay3]

variable (hf : Fits (cntA m (0 : Dev nD)))
include hf

/-- The call's array at a token before its list's count. -/
theorem array_token (hO : Ok m) (e : Fin 16) (r : Fin 33792) (d : Fin 1024) (h : r.val < cn m e.val) (i : S4329472x128.Idx)
    (h0 : (i 0).val = (e.val * 33792 + r.val) * 8 + d.val / 128) (h1 : (i 1).val = d.val % 128) :
    ((dats m hO 0 0).arrAt 4 (cfgM m hO).N : Vec Ideal S4329472x128 .f32) i
      = ffn (fun d => xA m 0 (ix3 e r d)) (fun d f => wgA m 0 (ix3 e d f)) (fun d f => wuA m 0 (ix3 e d f)) fun f => wdA m 0 (ix3 e f d) := by
  have hk : r.val / 512 < nBlk (cn m) e.val := by
    unfold nBlk
    omega
  have hs := first_succ (cn m) e.val
  have hm : first (cn m) (e.val + 1) ≤ first (cn m) 16 := first_mono (cn m) (by omega)
  have hl : first (cn m) 16 ≤ 147 := hf.2
  obtain ⟨t, ht⟩ : ∃ t : Fin grid0.N, t.val = first (cn m) e.val + r.val / 512 := ⟨⟨first (cn m) e.val + r.val / 512, by have hN : grid0.N = 148 := N_0; omega⟩, rfl⟩
  have hu : t.val < first (cn m) 16 := by omega
  have t1 : first (cn m) e.val ≤ (st t).val := by show _ ≤ t.val; omega
  have t2 : (st t).val < first (cn m) (e.val + 1) := by show t.val < _; omega
  have hb := blk_le m hf e.val e.isLt
  have hrow : (rowT m (st t)).toNat = e.val * 66 + r.val / 512 := by
    rw [rowT_used m hf (st t) e t1 t2, BitVec.toNat_ofNat]
    show (e.val * 66 + (t.val - first (cn m) e.val)) % 2 ^ 32 = _
    omega
  have hexp : (expT m (st t)).toNat = e.val := by
    rw [expT_used m hf (st t) e t1 t2, BitVec.toNat_ofNat]
    show e.val % 2 ^ 32 = _
    omega
  refine (array_used m hf hO t hu (ix2 ⟨r.val % 512 * 8 + d.val / 128, by omega⟩ ⟨d.val % 128, by omega⟩) i
    (by rw [hrow, h0]; show _ = _ + (r.val % 512 * 8 + d.val / 128); omega) h1).trans ?_
  refine (tile_apply _ _ _ _ _ _).trans (ffn_congr (fun d' => ?_) (fun d' f => ?_) (fun d' f => ?_) (fun f => ?_))
  · refine (blk_0 m hO t _ (ix2 ⟨(e.val * 33792 + r.val) * 8 + d'.val / 128, by omega⟩ ⟨d'.val % 128, by omega⟩)
      (by rw [hrow]; show (e.val * 33792 + r.val) * 8 + d'.val / 128 = _ + ((r.val % 512 * 8 + d.val / 128) / 8 * 8 + d'.val / 128); omega) rfl).trans ?_
    exact rows_in m 0 _ _ e r d' rfl rfl
  · refine (pay1_apply _ _ _).trans ((blk_1 m hO t _ (ix4 0 e d' f) hexp.symm rfl rfl).trans ?_)
    exact gate_in m 0 0 e d' f
  · refine (pay2_apply _ _ _).trans ((blk_2 m hO t _ (ix4 0 e d' f) hexp.symm rfl rfl).trans ?_)
    exact up_in m 0 0 e d' f
  · refine (pay3_apply _ _ _).trans ((blk_3 m hO t _ (ix4 0 e f d) hexp.symm rfl (by show d.val = (r.val % 512 * 8 + d.val / 128) % 8 * 128 + d.val % 128; omega)).trans ?_)
    exact down_in m 0 0 e f d

/-- The kernel's result at an index. -/
theorem outA_apply (hO : Ok m) (e : Fin 16) (r : Fin 33792) (d : Fin 1024) : outA m hO 0 (ix3 e r d)
      = Scalar.select (IntOp.cmpi .slt (BitVec.ofNat 32 r.val) (cntA m 0 (ix1 e)))
        (ffn (fun d => xA m 0 (ix3 e r d)) (fun d f => wgA m 0 (ix3 e d f)) (fun d f => wuA m 0 (ix3 e d f)) fun f => wdA m 0 (ix3 e f d)) 0 := by
  rw [outA_eq, keptK_apply]
  by_cases hc : IntOp.cmpi .slt (BitVec.ofNat 32 r.val) (cntA m 0 (ix1 e)) = 1#1
  · have hr : r.val < cn m e.val := by
      have hb : cn m e.val ≤ 33792 := hf.1 e.val e.isLt
      have h2 := hc
      rw [natOf_at (cntA m 0) e, WordCmp.cmpi_slt_eq] at h2
      simp only [WordCmp.ofBool_decide_eq_one_iff] at h2
      rw [StableHlo.Predicate.toInt_ofNat_small _ (by omega), StableHlo.Predicate.toInt_ofNat_small _ (by show cn m e.val < _; omega)] at h2
      have h3 : (r.val : ℤ) < (cn m e.val : ℤ) := h2
      omega
    refine congrArg (fun z => Scalar.select _ z (0 : EReal)) ?_
    refine (cast_out _ e r d (ix2 ⟨(e.val * 33792 + r.val) * 8 + d.val / 128, by omega⟩ ⟨d.val % 128, by omega⟩) rfl rfl).trans ?_
    exact array_token m hf hO e r d hr _ rfl rfl
  · have hs : ∀ a b : EReal, Scalar.select (IntOp.cmpi .slt (BitVec.ofNat 32 r.val) (cntA m 0 (ix1 e))) a b = b := fun a b => by
      unfold Scalar.select
      exact if_neg hc
    rw [hs, hs]

end Cert.Experts

end
-- ==== Proof.ExpertsRef.lean ====
/- The experts' reference, read at an index. -/
module

public import proofs.«01_k».proof.Proof.Gen.Reference2Ideal.Run
public import proofs.«01_k».proof.Proof.ExpertsTileValue
public import proofs.«01_k».proof.Proof.Consts

@[expose] public section

set_option maxRecDepth 16384

noncomputable section

namespace Cert.Experts.Ref

open Cert.Reference2Ideal Cert.Reference2Ideal.Gen
open Idealize.ShloMosaic Idealize.ShloMosaic.TcCoe

/-- A projection of every token by its list's weights. -/
def proj (x : FVec Ideal S16x33792x1024 .f32) (w : FVec Ideal S16x1024x768 .f32) : FVec Ideal S16x33792x768 .f32 :=
  Host.dotGeneral dot_S16x33792x1024_S16x1024x768_S16x33792x768_2_1_1_2_0_0 none x w

/-- The gate's activation. -/
def silu (v : FVec Ideal S16x33792x768 .f32) : FVec Ideal S16x33792x768 .f32 :=
  mulf v (Host.divf (broadcastInDim S16x33792x768 ![] bcast_S_S16x33792x768 (constant S_ .f32 0x3F800000#32))
    (addf (broadcastInDim S16x33792x768 ![] bcast_S_S16x33792x768 (constant S_ .f32 0x3F800000#32)) (Host.exp (Host.negf v))))

/-- The down projection. -/
def down (v : FVec Ideal S16x33792x768 .f32) (w : FVec Ideal S16x768x1024 .f32) : FVec Ideal S16x33792x1024 .f32 :=
  Host.dotGeneral dot_S16x33792x768_S16x768x1024_S16x33792x1024_2_1_1_2_0_0 none v w

/-- Zero past each list's count. -/
def kept (n : IVec S16 32) (v : FVec Ideal S16x33792x1024 .f32) : FVec Ideal S16x33792x1024 .f32 :=
  select (broadcastInDim S16x33792x1024 ![0, 1, 2] bcast_S16x33792x1_S16x33792x1024_0_1_2
      (cmpi .slt (broadcastInDim S16x33792x1 ![0, 1, 2] bcast_S1x33792x1_S16x33792x1_0_1_2 (broadcastInDim S1x33792x1 ![1] bcast_S33792_S1x33792x1_1 (iotaInDim S33792 32 0)))
        (broadcastInDim S16x33792x1 ![0, 1, 2] bcast_S16x1x1_S16x33792x1_0_1_2 (broadcastInDim S16x1x1 ![0] bcast_S16_S16x1x1_0 n))))
    v (broadcastInDim S16x33792x1024 ![] bcast_S_S16x33792x1024 (id (constant S_ .f32 0x00000000#32)))

def out (x : FVec Ideal S16x33792x1024 .f32) (n : IVec S16 32) (wg wu : FVec Ideal S16x1024x768 .f32) (wd : FVec Ideal S16x768x1024 .f32) : FVec Ideal S16x33792x1024 .f32 :=
  kept n (down (mulf (silu (proj x wg)) (proj x wu)) wd)

theorem proj_apply (x : FVec Ideal S16x33792x1024 .f32) (w : FVec Ideal S16x1024x768 .f32) (e : Fin 16) (r : Fin 33792) (f : Fin 768) :
    proj x w (ix3 e r f) = ∑ d : Fin 1024, x (ix3 e r d) * w (ix3 e d f) := by
  pointwise [proj]

theorem down_apply (v : FVec Ideal S16x33792x768 .f32) (w : FVec Ideal S16x768x1024 .f32) (e : Fin 16) (r : Fin 33792) (d : Fin 1024) :
    down v w (ix3 e r d) = ∑ f : Fin 768, v (ix3 e r f) * w (ix3 e f d) := by
  pointwise [down]

theorem one_val : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

theorem silu_apply (v : FVec Ideal S16x33792x768 .f32) (e : Fin 16) (r : Fin 33792) (f : Fin 768) :
    silu v (ix3 e r f) = v (ix3 e r f) * Ideal.logistic (v (ix3 e r f)) := by
  have h : silu v (ix3 e r f) = v (ix3 e r f) * Ideal.div (Ideal.ofBits .f32 0x3F800000#32) (Ideal.ofBits .f32 0x3F800000#32 + Ideal.exp (-(v (ix3 e r f)))) := by
    pointwise [silu]
  rw [h, one_val]
  rfl

theorem kept_apply (n : IVec S16 32) (v : FVec Ideal S16x33792x1024 .f32) (e : Fin 16) (r : Fin 33792) (d : Fin 1024) :
    kept n v (ix3 e r d) = Scalar.select (IntOp.cmpi .slt (BitVec.ofNat 32 r.val) (n (ix1 e))) (v (ix3 e r d)) 0 := by
  pointwise [kept]
  have h : (id (constant (F := Ideal) S_ .f32 0x00000000#32) ix0 : EReal) = 0 := by
    show constant (F := Ideal) S_ .f32 0x00000000#32 ix0 = 0
    pointwise
  rw [h]

theorem out_apply (x : FVec Ideal S16x33792x1024 .f32) (n : IVec S16 32) (wg wu : FVec Ideal S16x1024x768 .f32) (wd : FVec Ideal S16x768x1024 .f32)
    (e : Fin 16) (r : Fin 33792) (d : Fin 1024) : out x n wg wu wd (ix3 e r d)
      = Scalar.select (IntOp.cmpi .slt (BitVec.ofNat 32 r.val) (n (ix1 e)))
        (ffn (fun d => x (ix3 e r d)) (fun d f => wg (ix3 e d f)) (fun d f => wu (ix3 e d f)) fun f => wd (ix3 e f d)) 0 := by
  unfold out
  rw [kept_apply, down_apply]
  congr 1
  unfold ffn
  refine Finset.sum_congr rfl fun f _ => ?_
  show silu (proj x wg) (ix3 e r f) * proj x wu (ix3 e r f) * _ = _
  rw [silu_apply, proj_apply, proj_apply]

end Cert.Experts.Ref

end
-- ==== Proof.ExpertsAlgebra.lean ====
/- The experts' value claim: the kernel and the reference compute the same feed-forwards. -/
module

public import proofs.«01_k».proof.Proof.ExpertsOut
public import proofs.«01_k».proof.Proof.ExpertsRef
public import proofs.«01_k».proof.Proof.ExpertsFrames
public import proofs.«01_k».proof.Proof.Gen.Kernel2
public import proofs.«01_k».proof.Proof.Gen.Pre_counts_fit
public import proofs.«01_k».proof.Defs
public import Idealize.ShloMosaic.Lib.Quiescent
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.SL.Sem

/-- The two results are equal when the counts fit. -/
theorem result_eq (m : (ℓ : Loc nD τ sig) → Buf (Elt Ideal) ℓ) (hf : Fits (cntA m (0 : Dev nD))) (hO : Ok m) :
    Ref.out (xA m 0) (cntA m 0) (wgA m 0) (wuA m 0) (wdA m 0) = outA m hO 0 := by
  funext i
  obtain ⟨e, r, d, rfl⟩ : ∃ (e : Fin 16) (r : Fin 33792) (d : Fin 1024), i = ix3 e r d := ⟨i 0, i 1, i 2, eq_ix3 i⟩
  exact (Ref.out_apply _ _ _ _ _ e r d).trans (outA_apply m hf hO e r d).symm

/-- The reference's run, with its result named. -/
theorem ref_run (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem ((c.tc : Thread _ Cert.Reference2Ideal.τ).loc Cert.Reference2Ideal.main_v11)
        = Ref.out (m ((c.tc : Thread _ Cert.Reference2Ideal.τ).loc Cert.Reference2Ideal.main_arg0)) (m ((c.tc : Thread _ Cert.Reference2Ideal.τ).loc Cert.Reference2Ideal.main_arg1)) (m ((c.tc : Thread _ Cert.Reference2Ideal.τ).loc Cert.Reference2Ideal.main_arg2))
            (m ((c.tc : Thread _ Cert.Reference2Ideal.τ).loc Cert.Reference2Ideal.main_arg3)) (m ((c.tc : Thread _ Cert.Reference2Ideal.τ).loc Cert.Reference2Ideal.main_arg4))
      ∧ r.2.mem ((c.tc : Thread _ Cert.Reference2Ideal.τ).loc Cert.Reference2Ideal.main_arg0) = m ((c.tc : Thread _ Cert.Reference2Ideal.τ).loc Cert.Reference2Ideal.main_arg0)
      ∧ r.2.mem ((c.tc : Thread _ Cert.Reference2Ideal.τ).loc Cert.Reference2Ideal.main_arg1) = m ((c.tc : Thread _ Cert.Reference2Ideal.τ).loc Cert.Reference2Ideal.main_arg1)
      ∧ r.2.mem ((c.tc : Thread _ Cert.Reference2Ideal.τ).loc Cert.Reference2Ideal.main_arg2) = m ((c.tc : Thread _ Cert.Reference2Ideal.τ).loc Cert.Reference2Ideal.main_arg2)
      ∧ r.2.mem ((c.tc : Thread _ Cert.Reference2Ideal.τ).loc Cert.Reference2Ideal.main_arg3) = m ((c.tc : Thread _ Cert.Reference2Ideal.τ).loc Cert.Reference2Ideal.main_arg3)
      ∧ r.2.mem ((c.tc : Thread _ Cert.Reference2Ideal.τ).loc Cert.Reference2Ideal.main_arg4) = m ((c.tc : Thread _ Cert.Reference2Ideal.τ).loc Cert.Reference2Ideal.main_arg4) := by
  refine (θ_run Cert.Reference2Ideal.defs _ _).mono (fun _ h c => ⟨(h c).1.trans ?_, (h c).2⟩) (Cert.Reference2Ideal.Value.run (F := Ideal) m ρ)
  unfold Ref.out Ref.kept Ref.down Ref.silu Ref.proj
  rfl

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩) (ref_run m ρ)

theorem frame_ri2_pre : Cert.quiescent_Reference2Ideal_pre_counts_fit := fun m ρ _ => frame_ri2 m ρ trivial

/-- The kernel's run, with its result named. -/
theorem kernel_run (m : (ℓ : Loc nD τ sig) → Buf (Elt Ideal) ℓ) (ρ : Dev nD → PrngReg) (hO : Ok m) :
    θ_run defs (onTc (τ := τ) (main (F := Ideal))) ⟨m, fun _ => 0, ρ⟩ fun r => ∀ c : Dev nD,
      r.2.mem ((c.tc : Thread nD τ).loc main_v57) = outA m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.2 c).2 main_v57 (by decide : main_v57 ∈ Pipeline.restRefs sig spec0), h.1.1 c⟩)
    (θ_run_and (frame_all m ρ hO) (run_main m ρ hO))

theorem algebraic : Cert.algebraic_Kernel2Ideal_Reference2Ideal := by
  intro m ρ m' ρ' hpre hagree
  have hf : Fits (cntA m (0 : Dev nD)) := fits_of_pre _ _ _ _ _ (hpre 0)
  have hO : Ok m := ok_of_fits m hf
  refine ⟨fun c => outA m hO c, kernel_run m ρ hO, ?_⟩
  refine (θ_run Cert.Reference2Ideal.defs _ _).mono (fun _ h c => ⟨(h c).1.trans ?_, (h c).2⟩) (ref_run m' ρ')
  obtain ⟨e0, e1, e2, e3, e4⟩ := hagree c
  rw [e0, e1, e2, e3, e4]
  obtain rfl : c = 0 := Subsingleton.elim _ _
  exact result_eq m hf hO

end Cert.Experts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_counts_fit
public import proofs.«01_k».proof.Proof.Frames
public import proofs.«01_k».proof.Proof.Algebra
public import proofs.«01_k».proof.Proof.ExpertsFrames
public import proofs.«01_k».proof.Proof.BitsFrames
public import proofs.«01_k».proof.Proof.ExpertsAlgebra

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_qk.Gen.facts, Cert.Pre_counts_fit.Gen.facts,
  Cert.Attention.frame_kernel, Cert.Attention.frame_kernelIdeal, Cert.Attention.frame_kernelIdeal_pre,
  Cert.Attention.frame_ri, Cert.Attention.frame_ri_pre,
  Cert.ExpertsBits.frame_kernel2, Cert.Experts.frame_kernel2Ideal, Cert.Experts.frame_ri2, Cert.Experts.frame_ri2_pre,
  trivial, Cert.Attention.algebraic, trivial, Cert.Experts.algebraic⟩

end Cert.Proof

end
